-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mean" .f32 0x38A72F05#32 ((12544⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1096) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x112x112 : Shape := ⟨4, ![16, 3, 112, 112]⟩
abbrev S3x128x3x3x3 : Shape := ⟨5, ![3, 128, 3, 3, 3]⟩
abbrev S3x128 : Shape := ⟨2, ![3, 128]⟩
abbrev S4x3x128x128x3x3 : Shape := ⟨6, ![4, 3, 128, 128, 3, 3]⟩
abbrev S4x3x128 : Shape := ⟨3, ![4, 3, 128]⟩
abbrev S4x100x128 : Shape := ⟨3, ![4, 100, 128]⟩
abbrev S4x100 : Shape := ⟨2, ![4, 100]⟩
abbrev S_ : Shape := ⟨0, ![]⟩

class Facts : Prop where
  bcast_S_S16x3x112x112 : S_.BroadcastsInDim S16x3x112x112 (![] : Fin 0 → Fin S16x3x112x112.rank)
  reducesTo_S16x3x112x112_S_d0_1_2_3 : S16x3x112x112.ReducesTo [0, 1, 2, 3] S_
  h_S_ : 0 < S_.numel
  bcast_S_S3x128x3x3x3 : S_.BroadcastsInDim S3x128x3x3x3 (![] : Fin 0 → Fin S3x128x3x3x3.rank)
  reducesTo_S3x128x3x3x3_S_d0_1_2_3_4 : S3x128x3x3x3.ReducesTo [0, 1, 2, 3, 4] S_
  bcast_S_S3x128 : S_.BroadcastsInDim S3x128 (![] : Fin 0 → Fin S3x128.rank)
  reducesTo_S3x128_S_d0_1 : S3x128.ReducesTo [0, 1] S_
  bcast_S_S4x3x128x128x3x3 : S_.BroadcastsInDim S4x3x128x128x3x3 (![] : Fin 0 → Fin S4x3x128x128x3x3.rank)
  reducesTo_S4x3x128x128x3x3_S_d0_1_2_3_4_5 : S4x3x128x128x3x3.ReducesTo [0, 1, 2, 3, 4, 5] S_
  bcast_S_S4x3x128 : S_.BroadcastsInDim S4x3x128 (![] : Fin 0 → Fin S4x3x128.rank)
  reducesTo_S4x3x128_S_d0_1_2 : S4x3x128.ReducesTo [0, 1, 2] S_
  bcast_S_S4x100x128 : S_.BroadcastsInDim S4x100x128 (![] : Fin 0 → Fin S4x100x128.rank)
  reducesTo_S4x100x128_S_d0_1_2 : S4x100x128.ReducesTo [0, 1, 2] S_
  bcast_S_S4x100 : S_.BroadcastsInDim S4x100 (![] : Fin 0 → Fin S4x100.rank)
  reducesTo_S4x100_S_d0_1 : S4x100.ReducesTo [0, 1] S_

variable [Facts]

def fn_part1 {F : FTy → Type} [FloatOps F] (main_arg4 : FVec F S4x3x128 .f32) (main_arg5 : FVec F S4x100x128 .f32) (main_arg6 : FVec F S4x100 .f32) (main_v13 : IVec S_ 1) (main_v16 : IVec S4x3x128x128x3x3 1) : IVec S_ 1 :=
  let main_c_5 : IVec S_ 1 := constantI S_ 1 1#1
  let main_v17 : IVec S_ 1 := (fun x v => Host.reduce IntOp.andi x v reducesTo_S4x3x128x128x3x3_S_d0_1_2_3_4_5 h_S_) main_v16 main_c_5
  let main_v18 : IVec S_ 1 := andi main_v13 main_v17
  let main_v19 : FVec F S4x3x128 .f32 := Host.absf main_arg4
  let main_cst_6 : FVec F S_ .f32 := constant S_ .f32 0x7F800000#32
  let main_v20 : FVec F S4x3x128 .f32 := broadcastInDim S4x3x128 ![] bcast_S_S4x3x128 main_cst_6
  let main_v21 : IVec S4x3x128 1 := cmpf .olt main_v19 main_v20
  let main_c_7 : IVec S_ 1 := constantI S_ 1 1#1
  let main_v22 : IVec S_ 1 := (fun x v => Host.reduce IntOp.andi x v reducesTo_S4x3x128_S_d0_1_2 h_S_) main_v21 main_c_7
  let main_v23 : IVec S_ 1 := andi main_v18 main_v22
  let main_v24 : FVec F S4x100x128 .f32 := Host.absf main_arg5
  let main_cst_8 : FVec F S_ .f32 := constant S_ .f32 0x7F800000#32
  let main_v25 : FVec F S4x100x128 .f32 := broadcastInDim S4x100x128 ![] bcast_S_S4x100x128 main_cst_8
  let main_v26 : IVec S4x100x128 1 := cmpf .olt main_v24 main_v25
  let main_c_9 : IVec S_ 1 := constantI S_ 1 1#1
  let main_v27 : IVec S_ 1 := (fun x v => Host.reduce IntOp.andi x v reducesTo_S4x100x128_S_d0_1_2 h_S_) main_v26 main_c_9
  let main_v28 : IVec S_ 1 := andi main_v23 main_v27
  let main_v29 : FVec F S4x100 .f32 := Host.absf main_arg6
  let main_cst_10 : FVec F S_ .f32 := constant S_ .f32 0x7F800000#32
  let main_v30 : FVec F S4x100 .f32 := broadcastInDim S4x100 ![] bcast_S_S4x100 main_cst_10
  let main_v31 : IVec S4x100 1 := cmpf .olt main_v29 main_v30
  let main_c_11 : IVec S_ 1 := constantI S_ 1 1#1
  let main_v32 : IVec S_ 1 := (fun x v => Host.reduce IntOp.andi x v reducesTo_S4x100_S_d0_1 h_S_) main_v31 main_c_11
  let main_v33 : IVec S_ 1 := andi main_v28 main_v32
  main_v33

def fn {F : FTy → Type} [FloatOps F] (main_arg0 : FVec F S16x3x112x112 .f32) (main_arg1 : FVec F S3x128x3x3x3 .f32) (main_arg2 : FVec F S3x128 .f32) (main_arg3 : FVec F S4x3x128x128x3x3 .f32) (main_arg4 : FVec F S4x3x128 .f32) (main_arg5 : FVec F S4x100x128 .f32) (main_arg6 : FVec F S4x100 .f32) : IVec S_ 1 :=
  let main_v0 : FVec F S16x3x112x112 .f32 := Host.absf main_arg0
  let main_cst : FVec F S_ .f32 := constant S_ .f32 0x7F800000#32
  let main_v1 : FVec F S16x3x112x112 .f32 := broadcastInDim S16x3x112x112 ![] bcast_S_S16x3x112x112 main_cst
  let main_v2 : IVec S16x3x112x112 1 := cmpf .olt main_v0 main_v1
  let main_c : IVec S_ 1 := constantI S_ 1 1#1
  let main_v3 : IVec S_ 1 := (fun x v => Host.reduce IntOp.andi x v reducesTo_S16x3x112x112_S_d0_1_2_3 h_S_) main_v2 main_c
  let main_v4 : FVec F S3x128x3x3x3 .f32 := Host.absf main_arg1
  let main_cst_0 : FVec F S_ .f32 := constant S_ .f32 0x7F800000#32
  let main_v5 : FVec F S3x128x3x3x3 .f32 := broadcastInDim S3x128x3x3x3 ![] bcast_S_S3x128x3x3x3 main_cst_0
  let main_v6 : IVec S3x128x3x3x3 1 := cmpf .olt main_v4 main_v5
  let main_c_1 : IVec S_ 1 := constantI S_ 1 1#1
  let main_v7 : IVec S_ 1 := (fun x v => Host.reduce IntOp.andi x v reducesTo_S3x128x3x3x3_S_d0_1_2_3_4 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S4x3x128x128x3x3 .f32 := Host.absf main_arg3
  let main_cst_4 : FVec F S_ .f32 := constant S_ .f32 0x7F800000#32
  let main_v15 : FVec F S4x3x128x128x3x3 .f32 := broadcastInDim S4x3x128x128x3x3 ![] bcast_S_S4x3x128x128x3x3 main_cst_4
  let main_v16 : IVec S4x3x128x128x3x3 1 := cmpf .olt main_v14 main_v15
  fn_part1 (F := F) main_arg4 main_arg5 main_arg6 main_v13 main_v16
-- ==== Kernel.lean ====
abbrev S16x3x112x112 : Shape := ⟨4, ![16, 3, 112, 112]⟩
abbrev S3x128x3x3x3 : Shape := ⟨5, ![3, 128, 3, 3, 3]⟩
abbrev S3x128 : Shape := ⟨2, ![3, 128]⟩
abbrev S4x3x128x128x3x3 : Shape := ⟨6, ![4, 3, 128, 128, 3, 3]⟩
abbrev S4x3x128 : Shape := ⟨3, ![4, 3, 128]⟩
abbrev S4x100x128 : Shape := ⟨3, ![4, 100, 128]⟩
abbrev S4x100 : Shape := ⟨2, ![4, 100]⟩
abbrev S16x112x112x3 : Shape := ⟨4, ![16, 112, 112, 3]⟩
abbrev S_ : Shape := ⟨0, ![]⟩
abbrev S16x114x114x3 : Shape := ⟨4, ![16, 114, 114, 3]⟩
abbrev S16x112x112x27 : Shape := ⟨4, ![16, 112, 112, 27]⟩
abbrev S16x112x128x27 : Shape := ⟨4, ![16, 112, 128, 27]⟩
abbrev S16x56x128x27 : Shape := ⟨4, ![16, 56, 128, 27]⟩
abbrev S1x128x3x3x3 : Shape := ⟨5, ![1, 128, 3, 3, 3]⟩
abbrev S128x3x3x3 : Shape := ⟨4, ![128, 3, 3, 3]⟩
abbrev S3x3x3x128 : Shape := ⟨4, ![3, 3, 3, 128]⟩
abbrev S27x128 : Shape := ⟨2, ![27, 128]⟩
abbrev S1x128 : Shape := ⟨2, ![1, 128]⟩
abbrev S128 : Shape := ⟨1, ![128]⟩
abbrev S4x1x128x128x3x3 : Shape := ⟨6, ![4, 1, 128, 128, 3, 3]⟩
abbrev S4x128x128x3x3 : Shape := ⟨5, ![4, 128, 128, 3, 3]⟩
abbrev S4x3x3x128x128 : Shape := ⟨5, ![4, 3, 3, 128, 128]⟩
abbrev S4x4x3x128x256 : Shape := ⟨5, ![4, 4, 3, 128, 256]⟩
abbrev S1 : Shape := ⟨1, ![1]⟩
abbrev S2 : Shape := ⟨1, ![2]⟩
abbrev S4x1536x256 : Shape := ⟨3, ![4, 1536, 256]⟩
abbrev S4x1x128 : Shape := ⟨3, ![4, 1, 128]⟩
abbrev S4x128 : Shape := ⟨2, ![4, 128]⟩
abbrev S1x4x1x128 : Shape := ⟨4, ![1, 4, 1, 128]⟩
abbrev S1x4x2x128 : Shape := ⟨4, ![1, 4, 2, 128]⟩
abbrev S4x256 : Shape := ⟨2, ![4, 256]⟩
abbrev S4x128x100 : Shape := ⟨3, ![4, 128, 100]⟩
abbrev S4x128x128 : Shape := ⟨3, ![4, 128, 128]⟩
abbrev S16x1x128 : Shape := ⟨3, ![16, 1, 128]⟩
abbrev S1x56x128x27 : Shape := ⟨4, ![1, 56, 128, 27]⟩
abbrev S1x1x128 : Shape := ⟨3, ![1, 1, 128]⟩
abbrev S57x128x128 : Shape := ⟨3, ![57, 128, 128]⟩
abbrev S57x8x128 : Shape := ⟨3, ![57, 8, 128]⟩
abbrev S128x128 : Shape := ⟨2, ![128, 128]⟩
abbrev S1x128x128 : Shape := ⟨3, ![1, 128, 128]⟩
abbrev S1x14x112x27 : Shape := ⟨4, ![1, 14, 112, 27]⟩
abbrev S14x112x27 : Shape := ⟨3, ![14, 112, 27]⟩
abbrev S1568x27 : Shape := ⟨2, ![1568, 27]⟩
abbrev S1568x128 : Shape := ⟨2, ![1568, 128]⟩
abbrev S14x112x128 : Shape := ⟨3, ![14, 112, 128]⟩
abbrev S15x128x128 : Shape := ⟨3, ![15, 128, 128]⟩
abbrev S15x112x128 : Shape := ⟨3, ![15, 112, 128]⟩
abbrev S1568x1536 : Shape := ⟨2, ![1568, 1536]⟩
abbrev S1x1536x256 : Shape := ⟨3, ![1, 1536, 256]⟩
abbrev S1536x256 : Shape := ⟨2, ![1536, 256]⟩
abbrev S1568x256 : Shape := ⟨2, ![1568, 256]⟩
abbrev S1x256 : Shape := ⟨2, ![1, 256]⟩
abbrev S256 : Shape := ⟨1, ![256]⟩
abbrev S1x1 : Shape := ⟨2, ![1, 1]⟩
abbrev S16x1x100 : Shape := ⟨3, ![16, 1, 100]⟩
abbrev S16x100 : Shape := ⟨2, ![16, 100]⟩

abbrev nBuf : Space → Nat
  | .hbm => 69
  | .vmem => 16
  | .smem => 0
  | _ => 0

abbrev bufTy : (tb : Table) → Fin (tcTables nBuf tb) → BufTy
  | .hbm, ⟨0, _⟩ => ⟨S16x3x112x112, .f32⟩
  | .hbm, ⟨1, _⟩ => ⟨S3x128x3x3x3, .f32⟩
  | .hbm, ⟨2, _⟩ => ⟨S3x128, .f32⟩
  | .hbm, ⟨3, _⟩ => ⟨S4x3x128x128x3x3, .f32⟩
  | .hbm, ⟨4, _⟩ => ⟨S4x3x128, .f32⟩
  | .hbm, ⟨5, _⟩ => ⟨S4x100x128, .f32⟩
  | .hbm, ⟨6, _⟩ => ⟨S4x100, .f32⟩
  | .hbm, ⟨7, _⟩ => ⟨S16x112x112x3, .f32⟩
  | .hbm, ⟨8, _⟩ => ⟨S_, .i32⟩
  | .hbm, ⟨9, _⟩ => ⟨S_, .f32⟩
  | .hbm, ⟨10, _⟩ => ⟨S16x114x114x3, .f32⟩
  | .hbm, ⟨11, _⟩ => ⟨S16x112x112x3, .f32⟩
  | .hbm, ⟨12, _⟩ => ⟨S16x112x112x3, .f32⟩
  | .hbm, ⟨13, _⟩ => ⟨S16x112x112x3, .f32⟩
  | .hbm, ⟨14, _⟩ => ⟨S16x112x112x3, .f32⟩
  | .hbm, ⟨15, _⟩ => ⟨S16x112x112x3, .f32⟩
  | .hbm, ⟨16, _⟩ => ⟨S16x112x112x3, .f32⟩
  | .hbm, ⟨17, _⟩ => ⟨S16x112x112x3, .f32⟩
  | .hbm, ⟨18, _⟩ => ⟨S16x112x112x3, .f32⟩
  | .hbm, ⟨19, _⟩ => ⟨S16x112x112x3, .f32⟩
  | .hbm, ⟨20, _⟩ => ⟨S16x112x112x27, .f32⟩
  | .hbm, ⟨21, _⟩ => ⟨S_, .i32⟩
  | .hbm, ⟨22, _⟩ => ⟨S_, .f32⟩
  | .hbm, ⟨23, _⟩ => ⟨S16x112x128x27, .f32⟩
  | .hbm, ⟨24, _⟩ => ⟨S16x112x128x27, .bf16⟩
  | .hbm, ⟨25, _⟩ => ⟨S16x56x128x27, .bf16⟩
  | .hbm, ⟨26, _⟩ => ⟨S16x56x128x27, .bf16⟩
  | .hbm, ⟨27, _⟩ => ⟨S1x128x3x3x3, .f32⟩
  | .hbm, ⟨28, _⟩ => ⟨S128x3x3x3, .f32⟩
  | .hbm, ⟨29, _⟩ => ⟨S3x3x3x128, .f32⟩
  | .hbm, ⟨30, _⟩ => ⟨S27x128, .f32⟩
  | .hbm, ⟨31, _⟩ => ⟨S27x128, .bf16⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S4x1x128x128x3x3, .f32⟩
  | .hbm, ⟨36, _⟩ => ⟨S4x128x128x3x3, .f32⟩
  | .hbm, ⟨37, _⟩ => ⟨S4x3x3x128x128, .f32⟩
  | .hbm, ⟨38, _⟩ => ⟨S_, .f32⟩
  | .hbm, ⟨39, _⟩ => ⟨S4x4x3x128x256, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S4x4x3x128x256, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S4x4x3x128x256, .f32⟩
  | .hbm, ⟨52, _⟩ => ⟨S4x1536x256, .f32⟩
  | .hbm, ⟨53, _⟩ => ⟨S4x1536x256, .bf16⟩
  | .hbm, ⟨54, _⟩ => ⟨S4x1x128, .f32⟩
  | .hbm, ⟨55, _⟩ => ⟨S4x128, .f32⟩
  | .hbm, ⟨56, _⟩ => ⟨S1x4x1x128, .f32⟩
  | .hbm, ⟨57, _⟩ => ⟨S1x4x2x128, .f32⟩
  | .hbm, ⟨58, _⟩ => ⟨S4x256, .f32⟩
  | .hbm, ⟨59, _⟩ => ⟨S4x128x100, .f32⟩
  | .hbm, ⟨60, _⟩ => ⟨S_, .i32⟩
  | .hbm, ⟨61, _⟩ => ⟨S_, .f32⟩
  | .hbm, ⟨62, _⟩ => ⟨S4x128x128, .f32⟩
  | .hbm, ⟨63, _⟩ => ⟨S_, .f32⟩
  | .hbm, ⟨64, _⟩ => ⟨S_, .f32⟩
  | .hbm, ⟨65, _⟩ => ⟨S4x128, .f32⟩
  | .hbm, ⟨66, _⟩ => ⟨S16x1x128, .f32⟩
  | .hbm, ⟨67, _⟩ => ⟨S16x1x100, .f32⟩
  | .hbm, ⟨68, _⟩ => ⟨S16x100, .f32⟩
  | .local _ .vmem, ⟨0, _⟩ => ⟨S1x56x128x27, .bf16⟩
  | .local _ .vmem, ⟨1, _⟩ => ⟨S1x56x128x27, .bf16⟩
  | .local _ .vmem, ⟨2, _⟩ => ⟨S1x56x128x27, .bf16⟩
  | .local _ .vmem, ⟨3, _⟩ => ⟨S1x56x128x27, .bf16⟩
  | .local _ .vmem, ⟨4, _⟩ => ⟨S27x128, .bf16⟩
  | .local _ .vmem, ⟨5, _⟩ => ⟨S1x128, .f32⟩
  | .local _ .vmem, ⟨6, _⟩ => ⟨S4x1536x256, .bf16⟩
  | .local _ .vmem, ⟨7, _⟩ => ⟨S4x256, .f32⟩
  | .local _ .vmem, ⟨8, _⟩ => ⟨S4x128x128, .f32⟩
  | .local _ .vmem, ⟨9, _⟩ => ⟨S4x128, .f32⟩
  | .local _ .vmem, ⟨10, _⟩ => ⟨S1x1x128, .f32⟩
  | .local _ .vmem, ⟨11, _⟩ => ⟨S1x1x128, .f32⟩
  | .local _ .vmem, ⟨12, _⟩ => ⟨S57x128x128, .f32⟩
  | .local _ .vmem, ⟨13, _⟩ => ⟨S57x128x128, .f32⟩
  | .local _ .vmem, ⟨14, _⟩ => ⟨S57x128x128, .f32⟩
  | .local _ .vmem, ⟨15, _⟩ => ⟨S57x128x128, .f32⟩
  | _, _ => ⟨S16x3x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_call2_v0 : Ref sig .tc := ⟨.hbm, 61, rfl⟩
abbrev main_v44 : Ref sig .tc := ⟨.hbm, 62, rfl⟩
abbrev main_cst_6 : Ref sig .tc := ⟨.hbm, 63, rfl⟩
abbrev main_call3_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x128x27 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x128x27 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S27x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1536x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mean" => some ((12544⁻¹ : ℝ) : EReal)
  | _ => none
-- ==== ReferenceIdeal.lean ====
abbrev S16x3x112x112 : Shape := ⟨4, ![16, 3, 112, 112]⟩
abbrev S3x128x3x3x3 : Shape := ⟨5, ![3, 128, 3, 3, 3]⟩
abbrev S3x128 : Shape := ⟨2, ![3, 128]⟩
abbrev S4x3x128x128x3x3 : Shape := ⟨6, ![4, 3, 128, 128, 3, 3]⟩
abbrev S4x3x128 : Shape := ⟨3, ![4, 3, 128]⟩
abbrev S4x100x128 : Shape := ⟨3, ![4, 100, 128]⟩
abbrev S4x100 : Shape := ⟨2, ![4, 100]⟩
abbrev S1x128x3x3x3 : Shape := ⟨5, ![1, 128, 3, 3, 3]⟩
abbrev S128x3x3x3 : Shape := ⟨4, ![128, 3, 3, 3]⟩
abbrev S1x128 : Shape := ⟨2, ![1, 128]⟩
abbrev S128 : Shape := ⟨1, ![128]⟩
abbrev S_ : Shape := ⟨0, ![]⟩
abbrev S16x3x114x114 : Shape := ⟨4, ![16, 3, 114, 114]⟩
abbrev S16x128x112x112 : Shape := ⟨4, ![16, 128, 112, 112]⟩
abbrev S128x3x1x1 : Shape := ⟨4, ![128, 3, 1, 1]⟩
abbrev S128x3 : Shape := ⟨2, ![128, 3]⟩
abbrev S16x112x112x128 : Shape := ⟨4, ![16, 112, 112, 128]⟩
abbrev S1x128x1x1 : Shape := ⟨4, ![1, 128, 1, 1]⟩
abbrev S16x100 : Shape := ⟨2, ![16, 100]⟩
abbrev S16 : Shape := ⟨1, ![16]⟩
abbrev S1x1x128x128x3x3 : Shape := ⟨6, ![1, 1, 128, 128, 3, 3]⟩
abbrev S128x128x3x3 : Shape := ⟨4, ![128, 128, 3, 3]⟩
abbrev S1x1x128 : Shape := ⟨3, ![1, 1, 128]⟩
abbrev S16x128x114x114 : Shape := ⟨4, ![16, 128, 114, 114]⟩
abbrev S128x128x1x1 : Shape := ⟨4, ![128, 128, 1, 1]⟩
abbrev S128x128 : Shape := ⟨2, ![128, 128]⟩
abbrev S16x128 : Shape := ⟨2, ![16, 128]⟩
abbrev S1x100x128 : Shape := ⟨3, ![1, 100, 128]⟩
abbrev S100x128 : Shape := ⟨2, ![100, 128]⟩
abbrev S128x100 : Shape := ⟨2, ![128, 100]⟩
abbrev S1x100 : Shape := ⟨2, ![1, 100]⟩
abbrev S100 : Shape := ⟨1, ![100]⟩
abbrev S16x1 : Shape := ⟨2, ![16, 1]⟩

abbrev nBuf : Space → Nat
  | .hbm => 1210
  | .vmem => 0
  | .smem => 0
  | _ => 0

abbrev hbmTy0_0 (i : Nat) : BufTy := match i % 128 with
  | 0 => ⟨S16x3x112x112, .f32⟩
  | 1 => ⟨S3x128x3x3x3, .f32⟩
  | 2 => ⟨S3x128, .f32⟩
  | 3 => ⟨S4x3x128x128x3x3, .f32⟩
  | 4 => ⟨S4x3x128, .f32⟩
  | 5 => ⟨S4x100x128, .f32⟩
  | 6 => ⟨S4x100, .f32⟩
  | 7 => ⟨S1x128x3x3x3, .f32⟩
  | 8 => ⟨S128x3x3x3, .f32⟩
  | 9 => ⟨S1x128, .f32⟩
  | 10 => ⟨S128, .f32⟩
  | 11 => ⟨S_, .i32⟩
  | 12 => ⟨S_, .f32⟩
  | 13 => ⟨S16x3x114x114, .f32⟩
  | 14 => ⟨S_, .f32⟩
  | 15 => ⟨S16x128x112x112, .f32⟩
  | 16 => ⟨S128x3x1x1, .f32⟩
  | 17 => ⟨S128x3, .f32⟩
  | 18 => ⟨S16x3x112x112, .f32⟩
  | 19 => ⟨S16x112x112x128, .f32⟩
  | 20 => ⟨S16x128x112x112, .f32⟩
  | 21 => ⟨S16x128x112x112, .f32⟩
  | 22 => ⟨S128x3x1x1, .f32⟩
  | 23 => ⟨S128x3, .f32⟩
  | 24 => ⟨S16x3x112x112, .f32⟩
  | 25 => ⟨S16x112x112x128, .f32⟩
  | 26 => ⟨S16x128x112x112, .f32⟩
  | 27 => ⟨S16x128x112x112, .f32⟩
  | 28 => ⟨S128x3x1x1, .f32⟩
  | 29 => ⟨S128x3, .f32⟩
  | 30 => ⟨S16x3x112x112, .f32⟩
  | 31 => ⟨S16x112x112x128, .f32⟩
  | 32 => ⟨S16x128x112x112, .f32⟩
  | 33 => ⟨S16x128x112x112, .f32⟩
  | 34 => ⟨S128x3x1x1, .f32⟩
  | 35 => ⟨S128x3, .f32⟩
  | 36 => ⟨S16x3x112x112, .f32⟩
  | 37 => ⟨S16x112x112x128, .f32⟩
  | 38 => ⟨S16x128x112x112, .f32⟩
  | 39 => ⟨S16x128x112x112, .f32⟩
  | 40 => ⟨S128x3x1x1, .f32⟩
  | 41 => ⟨S128x3, .f32⟩
  | 42 => ⟨S16x3x112x112, .f32⟩
  | 43 => ⟨S16x112x112x128, .f32⟩
  | 44 => ⟨S16x128x112x112, .f32⟩
  | 45 => ⟨S16x128x112x112, .f32⟩
  | 46 => ⟨S128x3x1x1, .f32⟩
  | 47 => ⟨S128x3, .f32⟩
  | 48 => ⟨S16x3x112x112, .f32⟩
  | 49 => ⟨S16x112x112x128, .f32⟩
  | 50 => ⟨S16x128x112x112, .f32⟩
  | 51 => ⟨S16x128x112x112, .f32⟩
  | 52 => ⟨S128x3x1x1, .f32⟩
  | 53 => ⟨S128x3, .f32⟩
  | 54 => ⟨S16x3x112x112, .f32⟩
  | 55 => ⟨S16x112x112x128, .f32⟩
  | 56 => ⟨S16x128x112x112, .f32⟩
  | 57 => ⟨S16x128x112x112, .f32⟩
  | 58 => ⟨S128x3x1x1, .f32⟩
  | 59 => ⟨S128x3, .f32⟩
  | 60 => ⟨S16x3x112x112, .f32⟩
  | 61 => ⟨S16x112x112x128, .f32⟩
  | 62 => ⟨S16x128x112x112, .f32⟩
  | 63 => ⟨S16x128x112x112, .f32⟩
  | 64 => ⟨S128x3x1x1, .f32⟩
  | 65 => ⟨S128x3, .f32⟩
  | 66 => ⟨S16x3x112x112, .f32⟩
  | 67 => ⟨S16x112x112x128, .f32⟩
  | 68 => ⟨S16x128x112x112, .f32⟩
  | 69 => ⟨S16x128x112x112, .f32⟩
  | 70 => ⟨S1x128x1x1, .f32⟩
  | 71 => ⟨S16x128x112x112, .f32⟩
  | 72 => ⟨S16x128x112x112, .f32⟩
  | 73 => ⟨S1x128x3x3x3, .f32⟩
  | 74 => ⟨S128x3x3x3, .f32⟩
  | 75 => ⟨S1x128, .f32⟩
  | 76 => ⟨S128, .f32⟩
  | 77 => ⟨S_, .i32⟩
  | 78 => ⟨S_, .f32⟩
  | 79 => ⟨S16x3x114x114, .f32⟩
  | 80 => ⟨S_, .f32⟩
  | 81 => ⟨S16x128x112x112, .f32⟩
  | 82 => ⟨S128x3x1x1, .f32⟩
  | 83 => ⟨S128x3, .f32⟩
  | 84 => ⟨S16x3x112x112, .f32⟩
  | 85 => ⟨S16x112x112x128, .f32⟩
  | 86 => ⟨S16x128x112x112, .f32⟩
  | 87 => ⟨S16x128x112x112, .f32⟩
  | 88 => ⟨S128x3x1x1, .f32⟩
  | 89 => ⟨S128x3, .f32⟩
  | 90 => ⟨S16x3x112x112, .f32⟩
  | 91 => ⟨S16x112x112x128, .f32⟩
  | 92 => ⟨S16x128x112x112, .f32⟩
  | 93 => ⟨S16x128x112x112, .f32⟩
  | 94 => ⟨S128x3x1x1, .f32⟩
  | 95 => ⟨S128x3, .f32⟩
  | 96 => ⟨S16x3x112x112, .f32⟩
  | 97 => ⟨S16x112x112x128, .f32⟩
  | 98 => ⟨S16x128x112x112, .f32⟩
  | 99 => ⟨S16x128x112x112, .f32⟩
  | 100 => ⟨S128x3x1x1, .f32⟩
  | 101 => ⟨S128x3, .f32⟩
  | 102 => ⟨S16x3x112x112, .f32⟩
  | 103 => ⟨S16x112x112x128, .f32⟩
  | 104 => ⟨S16x128x112x112, .f32⟩
  | 105 => ⟨S16x128x112x112, .f32⟩
  | 106 => ⟨S128x3x1x1, .f32⟩
  | 107 => ⟨S128x3, .f32⟩
  | 108 => ⟨S16x3x112x112, .f32⟩
  | 109 => ⟨S16x112x112x128, .f32⟩
  | 110 => ⟨S16x128x112x112, .f32⟩
  | 111 => ⟨S16x128x112x112, .f32⟩
  | 112 => ⟨S128x3x1x1, .f32⟩
  | 113 => ⟨S128x3, .f32⟩
  | 114 => ⟨S16x3x112x112, .f32⟩
  | 115 => ⟨S16x112x112x128, .f32⟩
  | 116 => ⟨S16x128x112x112, .f32⟩
  | 117 => ⟨S16x128x112x112, .f32⟩
  | 118 => ⟨S128x3x1x1, .f32⟩
  | 119 => ⟨S128x3, .f32⟩
  | 120 => ⟨S16x3x112x112, .f32⟩
  | 121 => ⟨S16x112x112x128, .f32⟩
  | 122 => ⟨S16x128x112x112, .f32⟩
  | 123 => ⟨S16x128x112x112, .f32⟩
  | 124 => ⟨S128x3x1x1, .f32⟩
  | 125 => ⟨S128x3, .f32⟩
  | 126 => ⟨S16x3x112x112, .f32⟩
  | 127 => ⟨S16x112x112x128, .f32⟩
  | _ => ⟨S16x3x112x112, .f32⟩

abbrev hbmTy0_1 (i : Nat) : BufTy := match i % 128 with
  | 0 => ⟨S16x128x112x112, .f32⟩
  | 1 => ⟨S16x128x112x112, .f32⟩
  | 2 => ⟨S128x3x1x1, .f32⟩
  | 3 => ⟨S128x3, .f32⟩
  | 4 => ⟨S16x3x112x112, .f32⟩
  | 5 => ⟨S16x112x112x128, .f32⟩
  | 6 => ⟨S16x128x112x112, .f32⟩
  | 7 => ⟨S16x128x112x112, .f32⟩
  | 8 => ⟨S1x128x1x1, .f32⟩
  | 9 => ⟨S16x128x112x112, .f32⟩
  | 10 => ⟨S16x128x112x112, .f32⟩
  | 11 => ⟨S1x128x3x3x3, .f32⟩
  | 12 => ⟨S128x3x3x3, .f32⟩
  | 13 => ⟨S1x128, .f32⟩
  | 14 => ⟨S128, .f32⟩
  | 15 => ⟨S_, .i32⟩
  | 16 => ⟨S_, .f32⟩
  | 17 => ⟨S16x3x114x114, .f32⟩
  | 18 => ⟨S_, .f32⟩
  | 19 => ⟨S16x128x112x112, .f32⟩
  | 20 => ⟨S128x3x1x1, .f32⟩
  | 21 => ⟨S128x3, .f32⟩
  | 22 => ⟨S16x3x112x112, .f32⟩
  | 23 => ⟨S16x112x112x128, .f32⟩
  | 24 => ⟨S16x128x112x112, .f32⟩
  | 25 => ⟨S16x128x112x112, .f32⟩
  | 26 => ⟨S128x3x1x1, .f32⟩
  | 27 => ⟨S128x3, .f32⟩
  | 28 => ⟨S16x3x112x112, .f32⟩
  | 29 => ⟨S16x112x112x128, .f32⟩
  | 30 => ⟨S16x128x112x112, .f32⟩
  | 31 => ⟨S16x128x112x112, .f32⟩
  | 32 => ⟨S128x3x1x1, .f32⟩
  | 33 => ⟨S128x3, .f32⟩
  | 34 => ⟨S16x3x112x112, .f32⟩
  | 35 => ⟨S16x112x112x128, .f32⟩
  | 36 => ⟨S16x128x112x112, .f32⟩
  | 37 => ⟨S16x128x112x112, .f32⟩
  | 38 => ⟨S128x3x1x1, .f32⟩
  | 39 => ⟨S128x3, .f32⟩
  | 40 => ⟨S16x3x112x112, .f32⟩
  | 41 => ⟨S16x112x112x128, .f32⟩
  | 42 => ⟨S16x128x112x112, .f32⟩
  | 43 => ⟨S16x128x112x112, .f32⟩
  | 44 => ⟨S128x3x1x1, .f32⟩
  | 45 => ⟨S128x3, .f32⟩
  | 46 => ⟨S16x3x112x112, .f32⟩
  | 47 => ⟨S16x112x112x128, .f32⟩
  | 48 => ⟨S16x128x112x112, .f32⟩
  | 49 => ⟨S16x128x112x112, .f32⟩
  | 50 => ⟨S128x3x1x1, .f32⟩
  | 51 => ⟨S128x3, .f32⟩
  | 52 => ⟨S16x3x112x112, .f32⟩
  | 53 => ⟨S16x112x112x128, .f32⟩
  | 54 => ⟨S16x128x112x112, .f32⟩
  | 55 => ⟨S16x128x112x112, .f32⟩
  | 56 => ⟨S128x3x1x1, .f32⟩
  | 57 => ⟨S128x3, .f32⟩
  | 58 => ⟨S16x3x112x112, .f32⟩
  | 59 => ⟨S16x112x112x128, .f32⟩
  | 60 => ⟨S16x128x112x112, .f32⟩
  | 61 => ⟨S16x128x112x112, .f32⟩
  | 62 => ⟨S128x3x1x1, .f32⟩
  | 63 => ⟨S128x3, .f32⟩
  | 64 => ⟨S16x3x112x112, .f32⟩
  | 65 => ⟨S16x112x112x128, .f32⟩
  | 66 => ⟨S16x128x112x112, .f32⟩
  | 67 => ⟨S16x128x112x112, .f32⟩
  | 68 => ⟨S128x3x1x1, .f32⟩
  | 69 => ⟨S128x3, .f32⟩
  | 70 => ⟨S16x3x112x112, .f32⟩
  | 71 => ⟨S16x112x112x128, .f32⟩
  | 72 => ⟨S16x128x112x112, .f32⟩
  | 73 => ⟨S16x128x112x112, .f32⟩
  | 74 => ⟨S1x128x1x1, .f32⟩
  | 75 => ⟨S16x128x112x112, .f32⟩
  | 76 => ⟨S16x128x112x112, .f32⟩
  | 77 => ⟨S_, .f32⟩
  | 78 => ⟨S16x100, .f32⟩
  | 79 => ⟨S_, .i1⟩
  | 80 => ⟨S16, .i1⟩
  | 81 => ⟨S1x1x128x128x3x3, .f32⟩
  | 82 => ⟨S128x128x3x3, .f32⟩
  | 83 => ⟨S1x1x128, .f32⟩
  | 84 => ⟨S128, .f32⟩
  | 85 => ⟨S_, .i32⟩
  | 86 => ⟨S_, .f32⟩
  | 87 => ⟨S16x128x114x114, .f32⟩
  | 88 => ⟨S_, .f32⟩
  | 89 => ⟨S16x128x112x112, .f32⟩
  | 90 => ⟨S128x128x1x1, .f32⟩
  | 91 => ⟨S128x128, .f32⟩
  | 92 => ⟨S16x128x112x112, .f32⟩
  | 93 => ⟨S16x112x112x128, .f32⟩
  | 94 => ⟨S16x128x112x112, .f32⟩
  | 95 => ⟨S16x128x112x112, .f32⟩
  | 96 => ⟨S128x128x1x1, .f32⟩
  | 97 => ⟨S128x128, .f32⟩
  | 98 => ⟨S16x128x112x112, .f32⟩
  | 99 => ⟨S16x112x112x128, .f32⟩
  | 100 => ⟨S16x128x112x112, .f32⟩
  | 101 => ⟨S16x128x112x112, .f32⟩
  | 102 => ⟨S128x128x1x1, .f32⟩
  | 103 => ⟨S128x128, .f32⟩
  | 104 => ⟨S16x128x112x112, .f32⟩
  | 105 => ⟨S16x112x112x128, .f32⟩
  | 106 => ⟨S16x128x112x112, .f32⟩
  | 107 => ⟨S16x128x112x112, .f32⟩
  | 108 => ⟨S128x128x1x1, .f32⟩
  | 109 => ⟨S128x128, .f32⟩
  | 110 => ⟨S16x128x112x112, .f32⟩
  | 111 => ⟨S16x112x112x128, .f32⟩
  | 112 => ⟨S16x128x112x112, .f32⟩
  | 113 => ⟨S16x128x112x112, .f32⟩
  | 114 => ⟨S128x128x1x1, .f32⟩
  | 115 => ⟨S128x128, .f32⟩
  | 116 => ⟨S16x128x112x112, .f32⟩
  | 117 => ⟨S16x112x112x128, .f32⟩
  | 118 => ⟨S16x128x112x112, .f32⟩
  | 119 => ⟨S16x128x112x112, .f32⟩
  | 120 => ⟨S128x128x1x1, .f32⟩
  | 121 => ⟨S128x128, .f32⟩
  | 122 => ⟨S16x128x112x112, .f32⟩
  | 123 => ⟨S16x112x112x128, .f32⟩
  | 124 => ⟨S16x128x112x112, .f32⟩
  | 125 => ⟨S16x128x112x112, .f32⟩
  | 126 => ⟨S128x128x1x1, .f32⟩
  | 127 => ⟨S128x128, .f32⟩
  | _ => ⟨S16x3x112x112, .f32⟩

abbrev hbmTy0_2 (i : Nat) : BufTy := match i % 128 with
  | 0 => ⟨S16x128x112x112, .f32⟩
  | 1 => ⟨S16x112x112x128, .f32⟩
  | 2 => ⟨S16x128x112x112, .f32⟩
  | 3 => ⟨S16x128x112x112, .f32⟩
  | 4 => ⟨S128x128x1x1, .f32⟩
  | 5 => ⟨S128x128, .f32⟩
  | 6 => ⟨S16x128x112x112, .f32⟩
  | 7 => ⟨S16x112x112x128, .f32⟩
  | 8 => ⟨S16x128x112x112, .f32⟩
  | 9 => ⟨S16x128x112x112, .f32⟩
  | 10 => ⟨S128x128x1x1, .f32⟩
  | 11 => ⟨S128x128, .f32⟩
  | 12 => ⟨S16x128x112x112, .f32⟩
  | 13 => ⟨S16x112x112x128, .f32⟩
  | 14 => ⟨S16x128x112x112, .f32⟩
  | 15 => ⟨S16x128x112x112, .f32⟩
  | 16 => ⟨S1x128x1x1, .f32⟩
  | 17 => ⟨S16x128x112x112, .f32⟩
  | 18 => ⟨S16x128x112x112, .f32⟩
  | 19 => ⟨S_, .f32⟩
  | 20 => ⟨S16x128x112x112, .f32⟩
  | 21 => ⟨S16x128x112x112, .f32⟩
  | 22 => ⟨S1x1x128x128x3x3, .f32⟩
  | 23 => ⟨S128x128x3x3, .f32⟩
  | 24 => ⟨S1x1x128, .f32⟩
  | 25 => ⟨S128, .f32⟩
  | 26 => ⟨S_, .i32⟩
  | 27 => ⟨S_, .f32⟩
  | 28 => ⟨S16x128x114x114, .f32⟩
  | 29 => ⟨S_, .f32⟩
  | 30 => ⟨S16x128x112x112, .f32⟩
  | 31 => ⟨S128x128x1x1, .f32⟩
  | 32 => ⟨S128x128, .f32⟩
  | 33 => ⟨S16x128x112x112, .f32⟩
  | 34 => ⟨S16x112x112x128, .f32⟩
  | 35 => ⟨S16x128x112x112, .f32⟩
  | 36 => ⟨S16x128x112x112, .f32⟩
  | 37 => ⟨S128x128x1x1, .f32⟩
  | 38 => ⟨S128x128, .f32⟩
  | 39 => ⟨S16x128x112x112, .f32⟩
  | 40 => ⟨S16x112x112x128, .f32⟩
  | 41 => ⟨S16x128x112x112, .f32⟩
  | 42 => ⟨S16x128x112x112, .f32⟩
  | 43 => ⟨S128x128x1x1, .f32⟩
  | 44 => ⟨S128x128, .f32⟩
  | 45 => ⟨S16x128x112x112, .f32⟩
  | 46 => ⟨S16x112x112x128, .f32⟩
  | 47 => ⟨S16x128x112x112, .f32⟩
  | 48 => ⟨S16x128x112x112, .f32⟩
  | 49 => ⟨S128x128x1x1, .f32⟩
  | 50 => ⟨S128x128, .f32⟩
  | 51 => ⟨S16x128x112x112, .f32⟩
  | 52 => ⟨S16x112x112x128, .f32⟩
  | 53 => ⟨S16x128x112x112, .f32⟩
  | 54 => ⟨S16x128x112x112, .f32⟩
  | 55 => ⟨S128x128x1x1, .f32⟩
  | 56 => ⟨S128x128, .f32⟩
  | 57 => ⟨S16x128x112x112, .f32⟩
  | 58 => ⟨S16x112x112x128, .f32⟩
  | 59 => ⟨S16x128x112x112, .f32⟩
  | 60 => ⟨S16x128x112x112, .f32⟩
  | 61 => ⟨S128x128x1x1, .f32⟩
  | 62 => ⟨S128x128, .f32⟩
  | 63 => ⟨S16x128x112x112, .f32⟩
  | 64 => ⟨S16x112x112x128, .f32⟩
  | 65 => ⟨S16x128x112x112, .f32⟩
  | 66 => ⟨S16x128x112x112, .f32⟩
  | 67 => ⟨S128x128x1x1, .f32⟩
  | 68 => ⟨S128x128, .f32⟩
  | 69 => ⟨S16x128x112x112, .f32⟩
  | 70 => ⟨S16x112x112x128, .f32⟩
  | 71 => ⟨S16x128x112x112, .f32⟩
  | 72 => ⟨S16x128x112x112, .f32⟩
  | 73 => ⟨S128x128x1x1, .f32⟩
  | 74 => ⟨S128x128, .f32⟩
  | 75 => ⟨S16x128x112x112, .f32⟩
  | 76 => ⟨S16x112x112x128, .f32⟩
  | 77 => ⟨S16x128x112x112, .f32⟩
  | 78 => ⟨S16x128x112x112, .f32⟩
  | 79 => ⟨S128x128x1x1, .f32⟩
  | 80 => ⟨S128x128, .f32⟩
  | 81 => ⟨S16x128x112x112, .f32⟩
  | 82 => ⟨S16x112x112x128, .f32⟩
  | 83 => ⟨S16x128x112x112, .f32⟩
  | 84 => ⟨S16x128x112x112, .f32⟩
  | 85 => ⟨S1x128x1x1, .f32⟩
  | 86 => ⟨S16x128x112x112, .f32⟩
  | 87 => ⟨S16x128x112x112, .f32⟩
  | 88 => ⟨S_, .f32⟩
  | 89 => ⟨S16x128x112x112, .f32⟩
  | 90 => ⟨S16x128x112x112, .f32⟩
  | 91 => ⟨S1x1x128x128x3x3, .f32⟩
  | 92 => ⟨S128x128x3x3, .f32⟩
  | 93 => ⟨S1x1x128, .f32⟩
  | 94 => ⟨S128, .f32⟩
  | 95 => ⟨S_, .i32⟩
  | 96 => ⟨S_, .f32⟩
  | 97 => ⟨S16x128x114x114, .f32⟩
  | 98 => ⟨S_, .f32⟩
  | 99 => ⟨S16x128x112x112, .f32⟩
  | 100 => ⟨S128x128x1x1, .f32⟩
  | 101 => ⟨S128x128, .f32⟩
  | 102 => ⟨S16x128x112x112, .f32⟩
  | 103 => ⟨S16x112x112x128, .f32⟩
  | 104 => ⟨S16x128x112x112, .f32⟩
  | 105 => ⟨S16x128x112x112, .f32⟩
  | 106 => ⟨S128x128x1x1, .f32⟩
  | 107 => ⟨S128x128, .f32⟩
  | 108 => ⟨S16x128x112x112, .f32⟩
  | 109 => ⟨S16x112x112x128, .f32⟩
  | 110 => ⟨S16x128x112x112, .f32⟩
  | 111 => ⟨S16x128x112x112, .f32⟩
  | 112 => ⟨S128x128x1x1, .f32⟩
  | 113 => ⟨S128x128, .f32⟩
  | 114 => ⟨S16x128x112x112, .f32⟩
  | 115 => ⟨S16x112x112x128, .f32⟩
  | 116 => ⟨S16x128x112x112, .f32⟩
  | 117 => ⟨S16x128x112x112, .f32⟩
  | 118 => ⟨S128x128x1x1, .f32⟩
  | 119 => ⟨S128x128, .f32⟩
  | 120 => ⟨S16x128x112x112, .f32⟩
  | 121 => ⟨S16x112x112x128, .f32⟩
  | 122 => ⟨S16x128x112x112, .f32⟩
  | 123 => ⟨S16x128x112x112, .f32⟩
  | 124 => ⟨S128x128x1x1, .f32⟩
  | 125 => ⟨S128x128, .f32⟩
  | 126 => ⟨S16x128x112x112, .f32⟩
  | 127 => ⟨S16x112x112x128, .f32⟩
  | _ => ⟨S16x3x112x112, .f32⟩

abbrev hbmTy0_3 (i : Nat) : BufTy := match i % 128 with
  | 0 => ⟨S16x128x112x112, .f32⟩
  | 1 => ⟨S16x128x112x112, .f32⟩
  | 2 => ⟨S128x128x1x1, .f32⟩
  | 3 => ⟨S128x128, .f32⟩
  | 4 => ⟨S16x128x112x112, .f32⟩
  | 5 => ⟨S16x112x112x128, .f32⟩
  | 6 => ⟨S16x128x112x112, .f32⟩
  | 7 => ⟨S16x128x112x112, .f32⟩
  | 8 => ⟨S128x128x1x1, .f32⟩
  | 9 => ⟨S128x128, .f32⟩
  | 10 => ⟨S16x128x112x112, .f32⟩
  | 11 => ⟨S16x112x112x128, .f32⟩
  | 12 => ⟨S16x128x112x112, .f32⟩
  | 13 => ⟨S16x128x112x112, .f32⟩
  | 14 => ⟨S128x128x1x1, .f32⟩
  | 15 => ⟨S128x128, .f32⟩
  | 16 => ⟨S16x128x112x112, .f32⟩
  | 17 => ⟨S16x112x112x128, .f32⟩
  | 18 => ⟨S16x128x112x112, .f32⟩
  | 19 => ⟨S16x128x112x112, .f32⟩
  | 20 => ⟨S128x128x1x1, .f32⟩
  | 21 => ⟨S128x128, .f32⟩
  | 22 => ⟨S16x128x112x112, .f32⟩
  | 23 => ⟨S16x112x112x128, .f32⟩
  | 24 => ⟨S16x128x112x112, .f32⟩
  | 25 => ⟨S16x128x112x112, .f32⟩
  | 26 => ⟨S1x128x1x1, .f32⟩
  | 27 => ⟨S16x128x112x112, .f32⟩
  | 28 => ⟨S16x128x112x112, .f32⟩
  | 29 => ⟨S_, .f32⟩
  | 30 => ⟨S16x128x112x112, .f32⟩
  | 31 => ⟨S16x128x112x112, .f32⟩
  | 32 => ⟨S_, .f32⟩
  | 33 => ⟨S16x128, .f32⟩
  | 34 => ⟨S_, .f32⟩
  | 35 => ⟨S16x128, .f32⟩
  | 36 => ⟨S16x128, .f32⟩
  | 37 => ⟨S1x100x128, .f32⟩
  | 38 => ⟨S100x128, .f32⟩
  | 39 => ⟨S128x100, .f32⟩
  | 40 => ⟨S16x100, .f32⟩
  | 41 => ⟨S1x100, .f32⟩
  | 42 => ⟨S100, .f32⟩
  | 43 => ⟨S1x100, .f32⟩
  | 44 => ⟨S16x100, .f32⟩
  | 45 => ⟨S16x100, .f32⟩
  | 46 => ⟨S_, .f32⟩
  | 47 => ⟨S16, .f32⟩
  | 48 => ⟨S_, .f32⟩
  | 49 => ⟨S16, .f32⟩
  | 50 => ⟨S16, .f32⟩
  | 51 => ⟨S16x1, .f32⟩
  | 52 => ⟨S16x100, .f32⟩
  | 53 => ⟨S16x100, .f32⟩
  | 54 => ⟨S16x100, .f32⟩
  | 55 => ⟨S_, .f32⟩
  | 56 => ⟨S16, .f32⟩
  | 57 => ⟨S16x1, .f32⟩
  | 58 => ⟨S16x100, .f32⟩
  | 59 => ⟨S16x100, .f32⟩
  | 60 => ⟨S_, .f32⟩
  | 61 => ⟨S16, .f32⟩
  | 62 => ⟨S16, .i1⟩
  | 63 => ⟨S_, .f32⟩
  | 64 => ⟨S16, .f32⟩
  | 65 => ⟨S16, .i1⟩
  | 66 => ⟨S16, .i1⟩
  | 67 => ⟨S16x1, .i1⟩
  | 68 => ⟨S16x100, .i1⟩
  | 69 => ⟨S16x100, .f32⟩
  | 70 => ⟨S16, .i1⟩
  | 71 => ⟨S1x1x128x128x3x3, .f32⟩
  | 72 => ⟨S128x128x3x3, .f32⟩
  | 73 => ⟨S1x1x128, .f32⟩
  | 74 => ⟨S128, .f32⟩
  | 75 => ⟨S_, .i32⟩
  | 76 => ⟨S_, .f32⟩
  | 77 => ⟨S16x128x114x114, .f32⟩
  | 78 => ⟨S_, .f32⟩
  | 79 => ⟨S16x128x112x112, .f32⟩
  | 80 => ⟨S128x128x1x1, .f32⟩
  | 81 => ⟨S128x128, .f32⟩
  | 82 => ⟨S16x128x112x112, .f32⟩
  | 83 => ⟨S16x112x112x128, .f32⟩
  | 84 => ⟨S16x128x112x112, .f32⟩
  | 85 => ⟨S16x128x112x112, .f32⟩
  | 86 => ⟨S128x128x1x1, .f32⟩
  | 87 => ⟨S128x128, .f32⟩
  | 88 => ⟨S16x128x112x112, .f32⟩
  | 89 => ⟨S16x112x112x128, .f32⟩
  | 90 => ⟨S16x128x112x112, .f32⟩
  | 91 => ⟨S16x128x112x112, .f32⟩
  | 92 => ⟨S128x128x1x1, .f32⟩
  | 93 => ⟨S128x128, .f32⟩
  | 94 => ⟨S16x128x112x112, .f32⟩
  | 95 => ⟨S16x112x112x128, .f32⟩
  | 96 => ⟨S16x128x112x112, .f32⟩
  | 97 => ⟨S16x128x112x112, .f32⟩
  | 98 => ⟨S128x128x1x1, .f32⟩
  | 99 => ⟨S128x128, .f32⟩
  | 100 => ⟨S16x128x112x112, .f32⟩
  | 101 => ⟨S16x112x112x128, .f32⟩
  | 102 => ⟨S16x128x112x112, .f32⟩
  | 103 => ⟨S16x128x112x112, .f32⟩
  | 104 => ⟨S128x128x1x1, .f32⟩
  | 105 => ⟨S128x128, .f32⟩
  | 106 => ⟨S16x128x112x112, .f32⟩
  | 107 => ⟨S16x112x112x128, .f32⟩
  | 108 => ⟨S16x128x112x112, .f32⟩
  | 109 => ⟨S16x128x112x112, .f32⟩
  | 110 => ⟨S128x128x1x1, .f32⟩
  | 111 => ⟨S128x128, .f32⟩
  | 112 => ⟨S16x128x112x112, .f32⟩
  | 113 => ⟨S16x112x112x128, .f32⟩
  | 114 => ⟨S16x128x112x112, .f32⟩
  | 115 => ⟨S16x128x112x112, .f32⟩
  | 116 => ⟨S128x128x1x1, .f32⟩
  | 117 => ⟨S128x128, .f32⟩
  | 118 => ⟨S16x128x112x112, .f32⟩
  | 119 => ⟨S16x112x112x128, .f32⟩
  | 120 => ⟨S16x128x112x112, .f32⟩
  | 121 => ⟨S16x128x112x112, .f32⟩
  | 122 => ⟨S128x128x1x1, .f32⟩
  | 123 => ⟨S128x128, .f32⟩
  | 124 => ⟨S16x128x112x112, .f32⟩
  | 125 => ⟨S16x112x112x128, .f32⟩
  | 126 => ⟨S16x128x112x112, .f32⟩
  | 127 => ⟨S16x128x112x112, .f32⟩
  | _ => ⟨S16x3x112x112, .f32⟩

abbrev hbmTy0_4 (i : Nat) : BufTy := match i % 128 with
  | 0 => ⟨S128x128x1x1, .f32⟩
  | 1 => ⟨S128x128, .f32⟩
  | 2 => ⟨S16x128x112x112, .f32⟩
  | 3 => ⟨S16x112x112x128, .f32⟩
  | 4 => ⟨S16x128x112x112, .f32⟩
  | 5 => ⟨S16x128x112x112, .f32⟩
  | 6 => ⟨S1x128x1x1, .f32⟩
  | 7 => ⟨S16x128x112x112, .f32⟩
  | 8 => ⟨S16x128x112x112, .f32⟩
  | 9 => ⟨S_, .f32⟩
  | 10 => ⟨S16x128x112x112, .f32⟩
  | 11 => ⟨S16x128x112x112, .f32⟩
  | 12 => ⟨S1x1x128x128x3x3, .f32⟩
  | 13 => ⟨S128x128x3x3, .f32⟩
  | 14 => ⟨S1x1x128, .f32⟩
  | 15 => ⟨S128, .f32⟩
  | 16 => ⟨S_, .i32⟩
  | 17 => ⟨S_, .f32⟩
  | 18 => ⟨S16x128x114x114, .f32⟩
  | 19 => ⟨S_, .f32⟩
  | 20 => ⟨S16x128x112x112, .f32⟩
  | 21 => ⟨S128x128x1x1, .f32⟩
  | 22 => ⟨S128x128, .f32⟩
  | 23 => ⟨S16x128x112x112, .f32⟩
  | 24 => ⟨S16x112x112x128, .f32⟩
  | 25 => ⟨S16x128x112x112, .f32⟩
  | 26 => ⟨S16x128x112x112, .f32⟩
  | 27 => ⟨S128x128x1x1, .f32⟩
  | 28 => ⟨S128x128, .f32⟩
  | 29 => ⟨S16x128x112x112, .f32⟩
  | 30 => ⟨S16x112x112x128, .f32⟩
  | 31 => ⟨S16x128x112x112, .f32⟩
  | 32 => ⟨S16x128x112x112, .f32⟩
  | 33 => ⟨S128x128x1x1, .f32⟩
  | 34 => ⟨S128x128, .f32⟩
  | 35 => ⟨S16x128x112x112, .f32⟩
  | 36 => ⟨S16x112x112x128, .f32⟩
  | 37 => ⟨S16x128x112x112, .f32⟩
  | 38 => ⟨S16x128x112x112, .f32⟩
  | 39 => ⟨S128x128x1x1, .f32⟩
  | 40 => ⟨S128x128, .f32⟩
  | 41 => ⟨S16x128x112x112, .f32⟩
  | 42 => ⟨S16x112x112x128, .f32⟩
  | 43 => ⟨S16x128x112x112, .f32⟩
  | 44 => ⟨S16x128x112x112, .f32⟩
  | 45 => ⟨S128x128x1x1, .f32⟩
  | 46 => ⟨S128x128, .f32⟩
  | 47 => ⟨S16x128x112x112, .f32⟩
  | 48 => ⟨S16x112x112x128, .f32⟩
  | 49 => ⟨S16x128x112x112, .f32⟩
  | 50 => ⟨S16x128x112x112, .f32⟩
  | 51 => ⟨S128x128x1x1, .f32⟩
  | 52 => ⟨S128x128, .f32⟩
  | 53 => ⟨S16x128x112x112, .f32⟩
  | 54 => ⟨S16x112x112x128, .f32⟩
  | 55 => ⟨S16x128x112x112, .f32⟩
  | 56 => ⟨S16x128x112x112, .f32⟩
  | 57 => ⟨S128x128x1x1, .f32⟩
  | 58 => ⟨S128x128, .f32⟩
  | 59 => ⟨S16x128x112x112, .f32⟩
  | 60 => ⟨S16x112x112x128, .f32⟩
  | 61 => ⟨S16x128x112x112, .f32⟩
  | 62 => ⟨S16x128x112x112, .f32⟩
  | 63 => ⟨S128x128x1x1, .f32⟩
  | 64 => ⟨S128x128, .f32⟩
  | 65 => ⟨S16x128x112x112, .f32⟩
  | 66 => ⟨S16x112x112x128, .f32⟩
  | 67 => ⟨S16x128x112x112, .f32⟩
  | 68 => ⟨S16x128x112x112, .f32⟩
  | 69 => ⟨S128x128x1x1, .f32⟩
  | 70 => ⟨S128x128, .f32⟩
  | 71 => ⟨S16x128x112x112, .f32⟩
  | 72 => ⟨S16x112x112x128, .f32⟩
  | 73 => ⟨S16x128x112x112, .f32⟩
  | 74 => ⟨S16x128x112x112, .f32⟩
  | 75 => ⟨S1x128x1x1, .f32⟩
  | 76 => ⟨S16x128x112x112, .f32⟩
  | 77 => ⟨S16x128x112x112, .f32⟩
  | 78 => ⟨S_, .f32⟩
  | 79 => ⟨S16x128x112x112, .f32⟩
  | 80 => ⟨S16x128x112x112, .f32⟩
  | 81 => ⟨S1x1x128x128x3x3, .f32⟩
  | 82 => ⟨S128x128x3x3, .f32⟩
  | 83 => ⟨S1x1x128, .f32⟩
  | 84 => ⟨S128, .f32⟩
  | 85 => ⟨S_, .i32⟩
  | 86 => ⟨S_, .f32⟩
  | 87 => ⟨S16x128x114x114, .f32⟩
  | 88 => ⟨S_, .f32⟩
  | 89 => ⟨S16x128x112x112, .f32⟩
  | 90 => ⟨S128x128x1x1, .f32⟩
  | 91 => ⟨S128x128, .f32⟩
  | 92 => ⟨S16x128x112x112, .f32⟩
  | 93 => ⟨S16x112x112x128, .f32⟩
  | 94 => ⟨S16x128x112x112, .f32⟩
  | 95 => ⟨S16x128x112x112, .f32⟩
  | 96 => ⟨S128x128x1x1, .f32⟩
  | 97 => ⟨S128x128, .f32⟩
  | 98 => ⟨S16x128x112x112, .f32⟩
  | 99 => ⟨S16x112x112x128, .f32⟩
  | 100 => ⟨S16x128x112x112, .f32⟩
  | 101 => ⟨S16x128x112x112, .f32⟩
  | 102 => ⟨S128x128x1x1, .f32⟩
  | 103 => ⟨S128x128, .f32⟩
  | 104 => ⟨S16x128x112x112, .f32⟩
  | 105 => ⟨S16x112x112x128, .f32⟩
  | 106 => ⟨S16x128x112x112, .f32⟩
  | 107 => ⟨S16x128x112x112, .f32⟩
  | 108 => ⟨S128x128x1x1, .f32⟩
  | 109 => ⟨S128x128, .f32⟩
  | 110 => ⟨S16x128x112x112, .f32⟩
  | 111 => ⟨S16x112x112x128, .f32⟩
  | 112 => ⟨S16x128x112x112, .f32⟩
  | 113 => ⟨S16x128x112x112, .f32⟩
  | 114 => ⟨S128x128x1x1, .f32⟩
  | 115 => ⟨S128x128, .f32⟩
  | 116 => ⟨S16x128x112x112, .f32⟩
  | 117 => ⟨S16x112x112x128, .f32⟩
  | 118 => ⟨S16x128x112x112, .f32⟩
  | 119 => ⟨S16x128x112x112, .f32⟩
  | 120 => ⟨S128x128x1x1, .f32⟩
  | 121 => ⟨S128x128, .f32⟩
  | 122 => ⟨S16x128x112x112, .f32⟩
  | 123 => ⟨S16x112x112x128, .f32⟩
  | 124 => ⟨S16x128x112x112, .f32⟩
  | 125 => ⟨S16x128x112x112, .f32⟩
  | 126 => ⟨S128x128x1x1, .f32⟩
  | 127 => ⟨S128x128, .f32⟩
  | _ => ⟨S16x3x112x112, .f32⟩

abbrev hbmTy0_5 (i : Nat) : BufTy := match i % 128 with
  | 0 => ⟨S16x128x112x112, .f32⟩
  | 1 => ⟨S16x112x112x128, .f32⟩
  | 2 => ⟨S16x128x112x112, .f32⟩
  | 3 => ⟨S16x128x112x112, .f32⟩
  | 4 => ⟨S128x128x1x1, .f32⟩
  | 5 => ⟨S128x128, .f32⟩
  | 6 => ⟨S16x128x112x112, .f32⟩
  | 7 => ⟨S16x112x112x128, .f32⟩
  | 8 => ⟨S16x128x112x112, .f32⟩
  | 9 => ⟨S16x128x112x112, .f32⟩
  | 10 => ⟨S128x128x1x1, .f32⟩
  | 11 => ⟨S128x128, .f32⟩
  | 12 => ⟨S16x128x112x112, .f32⟩
  | 13 => ⟨S16x112x112x128, .f32⟩
  | 14 => ⟨S16x128x112x112, .f32⟩
  | 15 => ⟨S16x128x112x112, .f32⟩
  | 16 => ⟨S1x128x1x1, .f32⟩
  | 17 => ⟨S16x128x112x112, .f32⟩
  | 18 => ⟨S16x128x112x112, .f32⟩
  | 19 => ⟨S_, .f32⟩
  | 20 => ⟨S16x128x112x112, .f32⟩
  | 21 => ⟨S16x128x112x112, .f32⟩
  | 22 => ⟨S_, .f32⟩
  | 23 => ⟨S16x128, .f32⟩
  | 24 => ⟨S_, .f32⟩
  | 25 => ⟨S16x128, .f32⟩
  | 26 => ⟨S16x128, .f32⟩
  | 27 => ⟨S1x100x128, .f32⟩
  | 28 => ⟨S100x128, .f32⟩
  | 29 => ⟨S128x100, .f32⟩
  | 30 => ⟨S16x100, .f32⟩
  | 31 => ⟨S1x100, .f32⟩
  | 32 => ⟨S100, .f32⟩
  | 33 => ⟨S1x100, .f32⟩
  | 34 => ⟨S16x100, .f32⟩
  | 35 => ⟨S16x100, .f32⟩
  | 36 => ⟨S_, .f32⟩
  | 37 => ⟨S16, .f32⟩
  | 38 => ⟨S_, .f32⟩
  | 39 => ⟨S16, .f32⟩
  | 40 => ⟨S16, .f32⟩
  | 41 => ⟨S16x1, .f32⟩
  | 42 => ⟨S16x100, .f32⟩
  | 43 => ⟨S16x100, .f32⟩
  | 44 => ⟨S16x100, .f32⟩
  | 45 => ⟨S_, .f32⟩
  | 46 => ⟨S16, .f32⟩
  | 47 => ⟨S16x1, .f32⟩
  | 48 => ⟨S16x100, .f32⟩
  | 49 => ⟨S16x100, .f32⟩
  | 50 => ⟨S_, .f32⟩
  | 51 => ⟨S16, .f32⟩
  | 52 => ⟨S16, .i1⟩
  | 53 => ⟨S_, .f32⟩
  | 54 => ⟨S16, .f32⟩
  | 55 => ⟨S16, .i1⟩
  | 56 => ⟨S16, .i1⟩
  | 57 => ⟨S16x1, .i1⟩
  | 58 => ⟨S16x100, .i1⟩
  | 59 => ⟨S16x100, .f32⟩
  | 60 => ⟨S16, .i1⟩
  | 61 => ⟨S1x1x128x128x3x3, .f32⟩
  | 62 => ⟨S128x128x3x3, .f32⟩
  | 63 => ⟨S1x1x128, .f32⟩
  | 64 => ⟨S128, .f32⟩
  | 65 => ⟨S_, .i32⟩
  | 66 => ⟨S_, .f32⟩
  | 67 => ⟨S16x128x114x114, .f32⟩
  | 68 => ⟨S_, .f32⟩
  | 69 => ⟨S16x128x112x112, .f32⟩
  | 70 => ⟨S128x128x1x1, .f32⟩
  | 71 => ⟨S128x128, .f32⟩
  | 72 => ⟨S16x128x112x112, .f32⟩
  | 73 => ⟨S16x112x112x128, .f32⟩
  | 74 => ⟨S16x128x112x112, .f32⟩
  | 75 => ⟨S16x128x112x112, .f32⟩
  | 76 => ⟨S128x128x1x1, .f32⟩
  | 77 => ⟨S128x128, .f32⟩
  | 78 => ⟨S16x128x112x112, .f32⟩
  | 79 => ⟨S16x112x112x128, .f32⟩
  | 80 => ⟨S16x128x112x112, .f32⟩
  | 81 => ⟨S16x128x112x112, .f32⟩
  | 82 => ⟨S128x128x1x1, .f32⟩
  | 83 => ⟨S128x128, .f32⟩
  | 84 => ⟨S16x128x112x112, .f32⟩
  | 85 => ⟨S16x112x112x128, .f32⟩
  | 86 => ⟨S16x128x112x112, .f32⟩
  | 87 => ⟨S16x128x112x112, .f32⟩
  | 88 => ⟨S128x128x1x1, .f32⟩
  | 89 => ⟨S128x128, .f32⟩
  | 90 => ⟨S16x128x112x112, .f32⟩
  | 91 => ⟨S16x112x112x128, .f32⟩
  | 92 => ⟨S16x128x112x112, .f32⟩
  | 93 => ⟨S16x128x112x112, .f32⟩
  | 94 => ⟨S128x128x1x1, .f32⟩
  | 95 => ⟨S128x128, .f32⟩
  | 96 => ⟨S16x128x112x112, .f32⟩
  | 97 => ⟨S16x112x112x128, .f32⟩
  | 98 => ⟨S16x128x112x112, .f32⟩
  | 99 => ⟨S16x128x112x112, .f32⟩
  | 100 => ⟨S128x128x1x1, .f32⟩
  | 101 => ⟨S128x128, .f32⟩
  | 102 => ⟨S16x128x112x112, .f32⟩
  | 103 => ⟨S16x112x112x128, .f32⟩
  | 104 => ⟨S16x128x112x112, .f32⟩
  | 105 => ⟨S16x128x112x112, .f32⟩
  | 106 => ⟨S128x128x1x1, .f32⟩
  | 107 => ⟨S128x128, .f32⟩
  | 108 => ⟨S16x128x112x112, .f32⟩
  | 109 => ⟨S16x112x112x128, .f32⟩
  | 110 => ⟨S16x128x112x112, .f32⟩
  | 111 => ⟨S16x128x112x112, .f32⟩
  | 112 => ⟨S128x128x1x1, .f32⟩
  | 113 => ⟨S128x128, .f32⟩
  | 114 => ⟨S16x128x112x112, .f32⟩
  | 115 => ⟨S16x112x112x128, .f32⟩
  | 116 => ⟨S16x128x112x112, .f32⟩
  | 117 => ⟨S16x128x112x112, .f32⟩
  | 118 => ⟨S128x128x1x1, .f32⟩
  | 119 => ⟨S128x128, .f32⟩
  | 120 => ⟨S16x128x112x112, .f32⟩
  | 121 => ⟨S16x112x112x128, .f32⟩
  | 122 => ⟨S16x128x112x112, .f32⟩
  | 123 => ⟨S16x128x112x112, .f32⟩
  | 124 => ⟨S1x128x1x1, .f32⟩
  | 125 => ⟨S16x128x112x112, .f32⟩
  | 126 => ⟨S16x128x112x112, .f32⟩
  | 127 => ⟨S_, .f32⟩
  | _ => ⟨S16x3x112x112, .f32⟩

abbrev hbmTy0_6 (i : Nat) : BufTy := match i % 128 with
  | 0 => ⟨S16x128x112x112, .f32⟩
  | 1 => ⟨S16x128x112x112, .f32⟩
  | 2 => ⟨S1x1x128x128x3x3, .f32⟩
  | 3 => ⟨S128x128x3x3, .f32⟩
  | 4 => ⟨S1x1x128, .f32⟩
  | 5 => ⟨S128, .f32⟩
  | 6 => ⟨S_, .i32⟩
  | 7 => ⟨S_, .f32⟩
  | 8 => ⟨S16x128x114x114, .f32⟩
  | 9 => ⟨S_, .f32⟩
  | 10 => ⟨S16x128x112x112, .f32⟩
  | 11 => ⟨S128x128x1x1, .f32⟩
  | 12 => ⟨S128x128, .f32⟩
  | 13 => ⟨S16x128x112x112, .f32⟩
  | 14 => ⟨S16x112x112x128, .f32⟩
  | 15 => ⟨S16x128x112x112, .f32⟩
  | 16 => ⟨S16x128x112x112, .f32⟩
  | 17 => ⟨S128x128x1x1, .f32⟩
  | 18 => ⟨S128x128, .f32⟩
  | 19 => ⟨S16x128x112x112, .f32⟩
  | 20 => ⟨S16x112x112x128, .f32⟩
  | 21 => ⟨S16x128x112x112, .f32⟩
  | 22 => ⟨S16x128x112x112, .f32⟩
  | 23 => ⟨S128x128x1x1, .f32⟩
  | 24 => ⟨S128x128, .f32⟩
  | 25 => ⟨S16x128x112x112, .f32⟩
  | 26 => ⟨S16x112x112x128, .f32⟩
  | 27 => ⟨S16x128x112x112, .f32⟩
  | 28 => ⟨S16x128x112x112, .f32⟩
  | 29 => ⟨S128x128x1x1, .f32⟩
  | 30 => ⟨S128x128, .f32⟩
  | 31 => ⟨S16x128x112x112, .f32⟩
  | 32 => ⟨S16x112x112x128, .f32⟩
  | 33 => ⟨S16x128x112x112, .f32⟩
  | 34 => ⟨S16x128x112x112, .f32⟩
  | 35 => ⟨S128x128x1x1, .f32⟩
  | 36 => ⟨S128x128, .f32⟩
  | 37 => ⟨S16x128x112x112, .f32⟩
  | 38 => ⟨S16x112x112x128, .f32⟩
  | 39 => ⟨S16x128x112x112, .f32⟩
  | 40 => ⟨S16x128x112x112, .f32⟩
  | 41 => ⟨S128x128x1x1, .f32⟩
  | 42 => ⟨S128x128, .f32⟩
  | 43 => ⟨S16x128x112x112, .f32⟩
  | 44 => ⟨S16x112x112x128, .f32⟩
  | 45 => ⟨S16x128x112x112, .f32⟩
  | 46 => ⟨S16x128x112x112, .f32⟩
  | 47 => ⟨S128x128x1x1, .f32⟩
  | 48 => ⟨S128x128, .f32⟩
  | 49 => ⟨S16x128x112x112, .f32⟩
  | 50 => ⟨S16x112x112x128, .f32⟩
  | 51 => ⟨S16x128x112x112, .f32⟩
  | 52 => ⟨S16x128x112x112, .f32⟩
  | 53 => ⟨S128x128x1x1, .f32⟩
  | 54 => ⟨S128x128, .f32⟩
  | 55 => ⟨S16x128x112x112, .f32⟩
  | 56 => ⟨S16x112x112x128, .f32⟩
  | 57 => ⟨S16x128x112x112, .f32⟩
  | 58 => ⟨S16x128x112x112, .f32⟩
  | 59 => ⟨S128x128x1x1, .f32⟩
  | 60 => ⟨S128x128, .f32⟩
  | 61 => ⟨S16x128x112x112, .f32⟩
  | 62 => ⟨S16x112x112x128, .f32⟩
  | 63 => ⟨S16x128x112x112, .f32⟩
  | 64 => ⟨S16x128x112x112, .f32⟩
  | 65 => ⟨S1x128x1x1, .f32⟩
  | 66 => ⟨S16x128x112x112, .f32⟩
  | 67 => ⟨S16x128x112x112, .f32⟩
  | 68 => ⟨S_, .f32⟩
  | 69 => ⟨S16x128x112x112, .f32⟩
  | 70 => ⟨S16x128x112x112, .f32⟩
  | 71 => ⟨S1x1x128x128x3x3, .f32⟩
  | 72 => ⟨S128x128x3x3, .f32⟩
  | 73 => ⟨S1x1x128, .f32⟩
  | 74 => ⟨S128, .f32⟩
  | 75 => ⟨S_, .i32⟩
  | 76 => ⟨S_, .f32⟩
  | 77 => ⟨S16x128x114x114, .f32⟩
  | 78 => ⟨S_, .f32⟩
  | 79 => ⟨S16x128x112x112, .f32⟩
  | 80 => ⟨S128x128x1x1, .f32⟩
  | 81 => ⟨S128x128, .f32⟩
  | 82 => ⟨S16x128x112x112, .f32⟩
  | 83 => ⟨S16x112x112x128, .f32⟩
  | 84 => ⟨S16x128x112x112, .f32⟩
  | 85 => ⟨S16x128x112x112, .f32⟩
  | 86 => ⟨S128x128x1x1, .f32⟩
  | 87 => ⟨S128x128, .f32⟩
  | 88 => ⟨S16x128x112x112, .f32⟩
  | 89 => ⟨S16x112x112x128, .f32⟩
  | 90 => ⟨S16x128x112x112, .f32⟩
  | 91 => ⟨S16x128x112x112, .f32⟩
  | 92 => ⟨S128x128x1x1, .f32⟩
  | 93 => ⟨S128x128, .f32⟩
  | 94 => ⟨S16x128x112x112, .f32⟩
  | 95 => ⟨S16x112x112x128, .f32⟩
  | 96 => ⟨S16x128x112x112, .f32⟩
  | 97 => ⟨S16x128x112x112, .f32⟩
  | 98 => ⟨S128x128x1x1, .f32⟩
  | 99 => ⟨S128x128, .f32⟩
  | 100 => ⟨S16x128x112x112, .f32⟩
  | 101 => ⟨S16x112x112x128, .f32⟩
  | 102 => ⟨S16x128x112x112, .f32⟩
  | 103 => ⟨S16x128x112x112, .f32⟩
  | 104 => ⟨S128x128x1x1, .f32⟩
  | 105 => ⟨S128x128, .f32⟩
  | 106 => ⟨S16x128x112x112, .f32⟩
  | 107 => ⟨S16x112x112x128, .f32⟩
  | 108 => ⟨S16x128x112x112, .f32⟩
  | 109 => ⟨S16x128x112x112, .f32⟩
  | 110 => ⟨S128x128x1x1, .f32⟩
  | 111 => ⟨S128x128, .f32⟩
  | 112 => ⟨S16x128x112x112, .f32⟩
  | 113 => ⟨S16x112x112x128, .f32⟩
  | 114 => ⟨S16x128x112x112, .f32⟩
  | 115 => ⟨S16x128x112x112, .f32⟩
  | 116 => ⟨S128x128x1x1, .f32⟩
  | 117 => ⟨S128x128, .f32⟩
  | 118 => ⟨S16x128x112x112, .f32⟩
  | 119 => ⟨S16x112x112x128, .f32⟩
  | 120 => ⟨S16x128x112x112, .f32⟩
  | 121 => ⟨S16x128x112x112, .f32⟩
  | 122 => ⟨S128x128x1x1, .f32⟩
  | 123 => ⟨S128x128, .f32⟩
  | 124 => ⟨S16x128x112x112, .f32⟩
  | 125 => ⟨S16x112x112x128, .f32⟩
  | 126 => ⟨S16x128x112x112, .f32⟩
  | 127 => ⟨S16x128x112x112, .f32⟩
  | _ => ⟨S16x3x112x112, .f32⟩

abbrev hbmTy0_7 (i : Nat) : BufTy := match i % 128 with
  | 0 => ⟨S128x128x1x1, .f32⟩
  | 1 => ⟨S128x128, .f32⟩
  | 2 => ⟨S16x128x112x112, .f32⟩
  | 3 => ⟨S16x112x112x128, .f32⟩
  | 4 => ⟨S16x128x112x112, .f32⟩
  | 5 => ⟨S16x128x112x112, .f32⟩
  | 6 => ⟨S1x128x1x1, .f32⟩
  | 7 => ⟨S16x128x112x112, .f32⟩
  | 8 => ⟨S16x128x112x112, .f32⟩
  | 9 => ⟨S_, .f32⟩
  | 10 => ⟨S16x128x112x112, .f32⟩
  | 11 => ⟨S16x128x112x112, .f32⟩
  | 12 => ⟨S_, .f32⟩
  | 13 => ⟨S16x128, .f32⟩
  | 14 => ⟨S_, .f32⟩
  | 15 => ⟨S16x128, .f32⟩
  | 16 => ⟨S16x128, .f32⟩
  | 17 => ⟨S1x100x128, .f32⟩
  | 18 => ⟨S100x128, .f32⟩
  | 19 => ⟨S128x100, .f32⟩
  | 20 => ⟨S16x100, .f32⟩
  | 21 => ⟨S1x100, .f32⟩
  | 22 => ⟨S100, .f32⟩
  | 23 => ⟨S1x100, .f32⟩
  | 24 => ⟨S16x100, .f32⟩
  | 25 => ⟨S16x100, .f32⟩
  | 26 => ⟨S_, .f32⟩
  | 27 => ⟨S16, .f32⟩
  | 28 => ⟨S_, .f32⟩
  | 29 => ⟨S16, .f32⟩
  | 30 => ⟨S16, .f32⟩
  | 31 => ⟨S16x1, .f32⟩
  | 32 => ⟨S16x100, .f32⟩
  | 33 => ⟨S16x100, .f32⟩
  | 34 => ⟨S16x100, .f32⟩
  | 35 => ⟨S_, .f32⟩
  | 36 => ⟨S16, .f32⟩
  | 37 => ⟨S16x1, .f32⟩
  | 38 => ⟨S16x100, .f32⟩
  | 39 => ⟨S16x100, .f32⟩
  | 40 => ⟨S_, .f32⟩
  | 41 => ⟨S16, .f32⟩
  | 42 => ⟨S16, .i1⟩
  | 43 => ⟨S_, .f32⟩
  | 44 => ⟨S16, .f32⟩
  | 45 => ⟨S16, .i1⟩
  | 46 => ⟨S16, .i1⟩
  | 47 => ⟨S16x1, .i1⟩
  | 48 => ⟨S16x100, .i1⟩
  | 49 => ⟨S16x100, .f32⟩
  | 50 => ⟨S16, .i1⟩
  | 51 => ⟨S1x1x128x128x3x3, .f32⟩
  | 52 => ⟨S128x128x3x3, .f32⟩
  | 53 => ⟨S1x1x128, .f32⟩
  | 54 => ⟨S128, .f32⟩
  | 55 => ⟨S_, .i32⟩
  | 56 => ⟨S_, .f32⟩
  | 57 => ⟨S16x128x114x114, .f32⟩
  | 58 => ⟨S_, .f32⟩
  | 59 => ⟨S16x128x112x112, .f32⟩
  | 60 => ⟨S128x128x1x1, .f32⟩
  | 61 => ⟨S128x128, .f32⟩
  | 62 => ⟨S16x128x112x112, .f32⟩
  | 63 => ⟨S16x112x112x128, .f32⟩
  | 64 => ⟨S16x128x112x112, .f32⟩
  | 65 => ⟨S16x128x112x112, .f32⟩
  | 66 => ⟨S128x128x1x1, .f32⟩
  | 67 => ⟨S128x128, .f32⟩
  | 68 => ⟨S16x128x112x112, .f32⟩
  | 69 => ⟨S16x112x112x128, .f32⟩
  | 70 => ⟨S16x128x112x112, .f32⟩
  | 71 => ⟨S16x128x112x112, .f32⟩
  | 72 => ⟨S128x128x1x1, .f32⟩
  | 73 => ⟨S128x128, .f32⟩
  | 74 => ⟨S16x128x112x112, .f32⟩
  | 75 => ⟨S16x112x112x128, .f32⟩
  | 76 => ⟨S16x128x112x112, .f32⟩
  | 77 => ⟨S16x128x112x112, .f32⟩
  | 78 => ⟨S128x128x1x1, .f32⟩
  | 79 => ⟨S128x128, .f32⟩
  | 80 => ⟨S16x128x112x112, .f32⟩
  | 81 => ⟨S16x112x112x128, .f32⟩
  | 82 => ⟨S16x128x112x112, .f32⟩
  | 83 => ⟨S16x128x112x112, .f32⟩
  | 84 => ⟨S128x128x1x1, .f32⟩
  | 85 => ⟨S128x128, .f32⟩
  | 86 => ⟨S16x128x112x112, .f32⟩
  | 87 => ⟨S16x112x112x128, .f32⟩
  | 88 => ⟨S16x128x112x112, .f32⟩
  | 89 => ⟨S16x128x112x112, .f32⟩
  | 90 => ⟨S128x128x1x1, .f32⟩
  | 91 => ⟨S128x128, .f32⟩
  | 92 => ⟨S16x128x112x112, .f32⟩
  | 93 => ⟨S16x112x112x128, .f32⟩
  | 94 => ⟨S16x128x112x112, .f32⟩
  | 95 => ⟨S16x128x112x112, .f32⟩
  | 96 => ⟨S128x128x1x1, .f32⟩
  | 97 => ⟨S128x128, .f32⟩
  | 98 => ⟨S16x128x112x112, .f32⟩
  | 99 => ⟨S16x112x112x128, .f32⟩
  | 100 => ⟨S16x128x112x112, .f32⟩
  | 101 => ⟨S16x128x112x112, .f32⟩
  | 102 => ⟨S128x128x1x1, .f32⟩
  | 103 => ⟨S128x128, .f32⟩
  | 104 => ⟨S16x128x112x112, .f32⟩
  | 105 => ⟨S16x112x112x128, .f32⟩
  | 106 => ⟨S16x128x112x112, .f32⟩
  | 107 => ⟨S16x128x112x112, .f32⟩
  | 108 => ⟨S128x128x1x1, .f32⟩
  | 109 => ⟨S128x128, .f32⟩
  | 110 => ⟨S16x128x112x112, .f32⟩
  | 111 => ⟨S16x112x112x128, .f32⟩
  | 112 => ⟨S16x128x112x112, .f32⟩
  | 113 => ⟨S16x128x112x112, .f32⟩
  | 114 => ⟨S1x128x1x1, .f32⟩
  | 115 => ⟨S16x128x112x112, .f32⟩
  | 116 => ⟨S16x128x112x112, .f32⟩
  | 117 => ⟨S_, .f32⟩
  | 118 => ⟨S16x128x112x112, .f32⟩
  | 119 => ⟨S16x128x112x112, .f32⟩
  | 120 => ⟨S1x1x128x128x3x3, .f32⟩
  | 121 => ⟨S128x128x3x3, .f32⟩
  | 122 => ⟨S1x1x128, .f32⟩
  | 123 => ⟨S128, .f32⟩
  | 124 => ⟨S_, .i32⟩
  | 125 => ⟨S_, .f32⟩
  | 126 => ⟨S16x128x114x114, .f32⟩
  | 127 => ⟨S_, .f32⟩
  | _ => ⟨S16x3x112x112, .f32⟩

abbrev hbmTy0_8 (i : Nat) : BufTy := match i % 128 with
  | 0 => ⟨S16x128x112x112, .f32⟩
  | 1 => ⟨S128x128x1x1, .f32⟩
  | 2 => ⟨S128x128, .f32⟩
  | 3 => ⟨S16x128x112x112, .f32⟩
  | 4 => ⟨S16x112x112x128, .f32⟩
  | 5 => ⟨S16x128x112x112, .f32⟩
  | 6 => ⟨S16x128x112x112, .f32⟩
  | 7 => ⟨S128x128x1x1, .f32⟩
  | 8 => ⟨S128x128, .f32⟩
  | 9 => ⟨S16x128x112x112, .f32⟩
  | 10 => ⟨S16x112x112x128, .f32⟩
  | 11 => ⟨S16x128x112x112, .f32⟩
  | 12 => ⟨S16x128x112x112, .f32⟩
  | 13 => ⟨S128x128x1x1, .f32⟩
  | 14 => ⟨S128x128, .f32⟩
  | 15 => ⟨S16x128x112x112, .f32⟩
  | 16 => ⟨S16x112x112x128, .f32⟩
  | 17 => ⟨S16x128x112x112, .f32⟩
  | 18 => ⟨S16x128x112x112, .f32⟩
  | 19 => ⟨S128x128x1x1, .f32⟩
  | 20 => ⟨S128x128, .f32⟩
  | 21 => ⟨S16x128x112x112, .f32⟩
  | 22 => ⟨S16x112x112x128, .f32⟩
  | 23 => ⟨S16x128x112x112, .f32⟩
  | 24 => ⟨S16x128x112x112, .f32⟩
  | 25 => ⟨S128x128x1x1, .f32⟩
  | 26 => ⟨S128x128, .f32⟩
  | 27 => ⟨S16x128x112x112, .f32⟩
  | 28 => ⟨S16x112x112x128, .f32⟩
  | 29 => ⟨S16x128x112x112, .f32⟩
  | 30 => ⟨S16x128x112x112, .f32⟩
  | 31 => ⟨S128x128x1x1, .f32⟩
  | 32 => ⟨S128x128, .f32⟩
  | 33 => ⟨S16x128x112x112, .f32⟩
  | 34 => ⟨S16x112x112x128, .f32⟩
  | 35 => ⟨S16x128x112x112, .f32⟩
  | 36 => ⟨S16x128x112x112, .f32⟩
  | 37 => ⟨S128x128x1x1, .f32⟩
  | 38 => ⟨S128x128, .f32⟩
  | 39 => ⟨S16x128x112x112, .f32⟩
  | 40 => ⟨S16x112x112x128, .f32⟩
  | 41 => ⟨S16x128x112x112, .f32⟩
  | 42 => ⟨S16x128x112x112, .f32⟩
  | 43 => ⟨S128x128x1x1, .f32⟩
  | 44 => ⟨S128x128, .f32⟩
  | 45 => ⟨S16x128x112x112, .f32⟩
  | 46 => ⟨S16x112x112x128, .f32⟩
  | 47 => ⟨S16x128x112x112, .f32⟩
  | 48 => ⟨S16x128x112x112, .f32⟩
  | 49 => ⟨S128x128x1x1, .f32⟩
  | 50 => ⟨S128x128, .f32⟩
  | 51 => ⟨S16x128x112x112, .f32⟩
  | 52 => ⟨S16x112x112x128, .f32⟩
  | 53 => ⟨S16x128x112x112, .f32⟩
  | 54 => ⟨S16x128x112x112, .f32⟩
  | 55 => ⟨S1x128x1x1, .f32⟩
  | 56 => ⟨S16x128x112x112, .f32⟩
  | 57 => ⟨S16x128x112x112, .f32⟩
  | 58 => ⟨S_, .f32⟩
  | 59 => ⟨S16x128x112x112, .f32⟩
  | 60 => ⟨S16x128x112x112, .f32⟩
  | 61 => ⟨S1x1x128x128x3x3, .f32⟩
  | 62 => ⟨S128x128x3x3, .f32⟩
  | 63 => ⟨S1x1x128, .f32⟩
  | 64 => ⟨S128, .f32⟩
  | 65 => ⟨S_, .i32⟩
  | 66 => ⟨S_, .f32⟩
  | 67 => ⟨S16x128x114x114, .f32⟩
  | 68 => ⟨S_, .f32⟩
  | 69 => ⟨S16x128x112x112, .f32⟩
  | 70 => ⟨S128x128x1x1, .f32⟩
  | 71 => ⟨S128x128, .f32⟩
  | 72 => ⟨S16x128x112x112, .f32⟩
  | 73 => ⟨S16x112x112x128, .f32⟩
  | 74 => ⟨S16x128x112x112, .f32⟩
  | 75 => ⟨S16x128x112x112, .f32⟩
  | 76 => ⟨S128x128x1x1, .f32⟩
  | 77 => ⟨S128x128, .f32⟩
  | 78 => ⟨S16x128x112x112, .f32⟩
  | 79 => ⟨S16x112x112x128, .f32⟩
  | 80 => ⟨S16x128x112x112, .f32⟩
  | 81 => ⟨S16x128x112x112, .f32⟩
  | 82 => ⟨S128x128x1x1, .f32⟩
  | 83 => ⟨S128x128, .f32⟩
  | 84 => ⟨S16x128x112x112, .f32⟩
  | 85 => ⟨S16x112x112x128, .f32⟩
  | 86 => ⟨S16x128x112x112, .f32⟩
  | 87 => ⟨S16x128x112x112, .f32⟩
  | 88 => ⟨S128x128x1x1, .f32⟩
  | 89 => ⟨S128x128, .f32⟩
  | 90 => ⟨S16x128x112x112, .f32⟩
  | 91 => ⟨S16x112x112x128, .f32⟩
  | 92 => ⟨S16x128x112x112, .f32⟩
  | 93 => ⟨S16x128x112x112, .f32⟩
  | 94 => ⟨S128x128x1x1, .f32⟩
  | 95 => ⟨S128x128, .f32⟩
  | 96 => ⟨S16x128x112x112, .f32⟩
  | 97 => ⟨S16x112x112x128, .f32⟩
  | 98 => ⟨S16x128x112x112, .f32⟩
  | 99 => ⟨S16x128x112x112, .f32⟩
  | 100 => ⟨S128x128x1x1, .f32⟩
  | 101 => ⟨S128x128, .f32⟩
  | 102 => ⟨S16x128x112x112, .f32⟩
  | 103 => ⟨S16x112x112x128, .f32⟩
  | 104 => ⟨S16x128x112x112, .f32⟩
  | 105 => ⟨S16x128x112x112, .f32⟩
  | 106 => ⟨S128x128x1x1, .f32⟩
  | 107 => ⟨S128x128, .f32⟩
  | 108 => ⟨S16x128x112x112, .f32⟩
  | 109 => ⟨S16x112x112x128, .f32⟩
  | 110 => ⟨S16x128x112x112, .f32⟩
  | 111 => ⟨S16x128x112x112, .f32⟩
  | 112 => ⟨S128x128x1x1, .f32⟩
  | 113 => ⟨S128x128, .f32⟩
  | 114 => ⟨S16x128x112x112, .f32⟩
  | 115 => ⟨S16x112x112x128, .f32⟩
  | 116 => ⟨S16x128x112x112, .f32⟩
  | 117 => ⟨S16x128x112x112, .f32⟩
  | 118 => ⟨S128x128x1x1, .f32⟩
  | 119 => ⟨S128x128, .f32⟩
  | 120 => ⟨S16x128x112x112, .f32⟩
  | 121 => ⟨S16x112x112x128, .f32⟩
  | 122 => ⟨S16x128x112x112, .f32⟩
  | 123 => ⟨S16x128x112x112, .f32⟩
  | 124 => ⟨S1x128x1x1, .f32⟩
  | 125 => ⟨S16x128x112x112, .f32⟩
  | 126 => ⟨S16x128x112x112, .f32⟩
  | 127 => ⟨S_, .f32⟩
  | _ => ⟨S16x3x112x112, .f32⟩

abbrev hbmTy0_9 (i : Nat) : BufTy := match i % 128 with
  | 0 => ⟨S16x128x112x112, .f32⟩
  | 1 => ⟨S16x128x112x112, .f32⟩
  | 2 => ⟨S_, .f32⟩
  | 3 => ⟨S16x128, .f32⟩
  | 4 => ⟨S_, .f32⟩
  | 5 => ⟨S16x128, .f32⟩
  | 6 => ⟨S16x128, .f32⟩
  | 7 => ⟨S1x100x128, .f32⟩
  | 8 => ⟨S100x128, .f32⟩
  | 9 => ⟨S128x100, .f32⟩
  | 10 => ⟨S16x100, .f32⟩
  | 11 => ⟨S1x100, .f32⟩
  | 12 => ⟨S100, .f32⟩
  | 13 => ⟨S1x100, .f32⟩
  | 14 => ⟨S16x100, .f32⟩
  | 15 => ⟨S16x100, .f32⟩
  | 16 => ⟨S_, .f32⟩
  | 17 => ⟨S16, .f32⟩
  | 18 => ⟨S_, .f32⟩
  | 19 => ⟨S16, .f32⟩
  | 20 => ⟨S16, .f32⟩
  | 21 => ⟨S16x1, .f32⟩
  | 22 => ⟨S16x100, .f32⟩
  | 23 => ⟨S16x100, .f32⟩
  | 24 => ⟨S16x100, .f32⟩
  | 25 => ⟨S_, .f32⟩
  | 26 => ⟨S16, .f32⟩
  | 27 => ⟨S16x1, .f32⟩
  | 28 => ⟨S16x100, .f32⟩
  | 29 => ⟨S16x100, .f32⟩
  | 30 => ⟨S_, .f32⟩
  | 31 => ⟨S16, .f32⟩
  | 32 => ⟨S16, .i1⟩
  | 33 => ⟨S_, .f32⟩
  | 34 => ⟨S16, .f32⟩
  | 35 => ⟨S16, .i1⟩
  | 36 => ⟨S16, .i1⟩
  | 37 => ⟨S16x1, .i1⟩
  | 38 => ⟨S16x100, .i1⟩
  | 39 => ⟨S16x100, .f32⟩
  | 40 => ⟨S16, .i1⟩
  | 41 => ⟨S_, .f32⟩
  | 42 => ⟨S16x128, .f32⟩
  | 43 => ⟨S_, .f32⟩
  | 44 => ⟨S16x128, .f32⟩
  | 45 => ⟨S16x128, .f32⟩
  | 46 => ⟨S1x100x128, .f32⟩
  | 47 => ⟨S100x128, .f32⟩
  | 48 => ⟨S128x100, .f32⟩
  | 49 => ⟨S16x100, .f32⟩
  | 50 => ⟨S1x100, .f32⟩
  | 51 => ⟨S100, .f32⟩
  | 52 => ⟨S1x100, .f32⟩
  | 53 => ⟨S16x100, .f32⟩
  | 54 => ⟨S16x100, .f32⟩
  | 55 => ⟨S16x1, .i1⟩
  | 56 => ⟨S16x100, .i1⟩
  | 57 => ⟨S16x100, .f32⟩
  | _ => ⟨S16x3x112x112, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16x3x112x112, .f32⟩

abbrev bufTy : (tb : Table) → Fin (tcTables nBuf tb) → BufTy
  | .hbm, ⟨i, _⟩ => hbmTy i
  | _, _ => ⟨S16x3x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c_0 : Ref sig .tc := ⟨.hbm, 77, rfl⟩
abbrev main_call1_v0 : Ref sig .tc := ⟨.hbm, 78, rfl⟩
abbrev main_v67 : Ref sig .tc := ⟨.hbm, 79, rfl⟩
abbrev main_cst_1 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_c_2 : Ref sig .tc := ⟨.hbm, 143, rfl⟩
abbrev main_call2_v0 : Ref sig .tc := ⟨.hbm, 144, rfl⟩
abbrev main_v130 : Ref sig .tc := ⟨.hbm, 145, rfl⟩
abbrev main_cst_3 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_cst_4 : Ref sig .tc := ⟨.hbm, 205, rfl⟩
abbrev main_v189 : Ref sig .tc := ⟨.hbm, 206, rfl⟩
abbrev main_c_5 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_c_6 : Ref sig .tc := ⟨.hbm, 213, rfl⟩
abbrev main_call3_v0 : Ref sig .tc := ⟨.hbm, 214, rfl⟩
abbrev main_v195 : Ref sig .tc := ⟨.hbm, 215, rfl⟩
abbrev main_cst_7 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_call4_cst : Ref sig .tc := ⟨.hbm, 275, rfl⟩
abbrev main_call4_v0 : Ref sig .tc := ⟨.hbm, 276, rfl⟩
abbrev main_v254 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_c_8 : Ref sig .tc := ⟨.hbm, 282, rfl⟩
abbrev main_call5_v0 : Ref sig .tc := ⟨.hbm, 283, rfl⟩
abbrev main_v259 : Ref sig .tc := ⟨.hbm, 284, rfl⟩
abbrev main_cst_9 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_v292 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_v305 : Ref sig .tc := ⟨.hbm, 331, rfl⟩
abbrev main_v306 : Ref sig .tc := ⟨.hbm, 332, rfl⟩
abbrev main_v307 : Ref sig .tc := ⟨.hbm, 333, rfl⟩
abbrev main_v308 : Ref sig .tc := ⟨.hbm, 334, rfl⟩
abbrev main_v309 : Ref sig .tc := ⟨.hbm, 335, rfl⟩
abbrev main_v310 : Ref sig .tc := ⟨.hbm, 336, rfl⟩
abbrev main_v311 : Ref sig .tc := ⟨.hbm, 337, rfl⟩
abbrev main_v312 : Ref sig .tc := ⟨.hbm, 338, rfl⟩
abbrev main_v313 : Ref sig .tc := ⟨.hbm, 339, rfl⟩
abbrev main_v314 : Ref sig .tc := ⟨.hbm, 340, rfl⟩
abbrev main_v315 : Ref sig .tc := ⟨.hbm, 341, rfl⟩
abbrev main_v316 : Ref sig .tc := ⟨.hbm, 342, rfl⟩
abbrev main_v317 : Ref sig .tc := ⟨.hbm, 343, rfl⟩
abbrev main_call6_cst : Ref sig .tc := ⟨.hbm, 344, rfl⟩
abbrev main_call6_v0 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_c_10 : Ref sig .tc := ⟨.hbm, 351, rfl⟩
abbrev main_call7_v0 : Ref sig .tc := ⟨.hbm, 352, rfl⟩
abbrev main_v323 : Ref sig .tc := ⟨.hbm, 353, rfl⟩
abbrev main_cst_11 : Ref sig .tc := ⟨.hbm, 354, rfl⟩
abbrev main_v324 : Ref sig .tc := ⟨.hbm, 355, rfl⟩
abbrev main_v325 : Ref sig .tc := ⟨.hbm, 356, rfl⟩
abbrev main_v326 : Ref sig .tc := ⟨.hbm, 357, rfl⟩
abbrev main_v327 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_v331 : Ref sig .tc := ⟨.hbm, 362, rfl⟩
abbrev main_v332 : Ref sig .tc := ⟨.hbm, 363, rfl⟩
abbrev main_v333 : Ref sig .tc := ⟨.hbm, 364, rfl⟩
abbrev main_v334 : Ref sig .tc := ⟨.hbm, 365, rfl⟩
abbrev main_v335 : Ref sig .tc := ⟨.hbm, 366, rfl⟩
abbrev main_v336 : Ref sig .tc := ⟨.hbm, 367, rfl⟩
abbrev main_v337 : Ref sig .tc := ⟨.hbm, 368, rfl⟩
abbrev main_v338 : Ref sig .tc := ⟨.hbm, 369, rfl⟩
abbrev main_v339 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_v343 : Ref sig .tc := ⟨.hbm, 374, rfl⟩
abbrev main_v344 : Ref sig .tc := ⟨.hbm, 375, rfl⟩
abbrev main_v345 : Ref sig .tc := ⟨.hbm, 376, rfl⟩
abbrev main_v346 : Ref sig .tc := ⟨.hbm, 377, rfl⟩
abbrev main_v347 : Ref sig .tc := ⟨.hbm, 378, rfl⟩
abbrev main_v348 : Ref sig .tc := ⟨.hbm, 379, rfl⟩
abbrev main_v349 : Ref sig .tc := ⟨.hbm, 380, rfl⟩
abbrev main_v350 : Ref sig .tc := ⟨.hbm, 381, rfl⟩
abbrev main_v351 : Ref sig .tc := ⟨.hbm, 382, rfl⟩
abbrev main_v352 : Ref sig .tc := ⟨.hbm, 383, rfl⟩
abbrev main_v353 : Ref sig .tc := ⟨.hbm, 384, rfl⟩
abbrev main_v354 : Ref sig .tc := ⟨.hbm, 385, rfl⟩
abbrev main_v355 : Ref sig .tc := ⟨.hbm, 386, rfl⟩
abbrev main_v356 : Ref sig .tc := ⟨.hbm, 387, rfl⟩
abbrev main_v357 : Ref sig .tc := ⟨.hbm, 388, rfl⟩
abbrev main_v358 : Ref sig .tc := ⟨.hbm, 389, rfl⟩
abbrev main_v359 : Ref sig .tc := ⟨.hbm, 390, rfl⟩
abbrev main_v360 : Ref sig .tc := ⟨.hbm, 391, rfl⟩
abbrev main_v361 : Ref sig .tc := ⟨.hbm, 392, rfl⟩
abbrev main_v362 : Ref sig .tc := ⟨.hbm, 393, rfl⟩
abbrev main_v363 : Ref sig .tc := ⟨.hbm, 394, rfl⟩
abbrev main_v364 : Ref sig .tc := ⟨.hbm, 395, rfl⟩
abbrev main_v365 : Ref sig .tc := ⟨.hbm, 396, rfl⟩
abbrev main_v366 : Ref sig .tc := ⟨.hbm, 397, rfl⟩
abbrev main_v367 : Ref sig .tc := ⟨.hbm, 398, rfl⟩
abbrev main_v368 : Ref sig .tc := ⟨.hbm, 399, rfl⟩
abbrev main_v369 : Ref sig .tc := ⟨.hbm, 400, rfl⟩
abbrev main_v370 : Ref sig .tc := ⟨.hbm, 401, rfl⟩
abbrev main_v371 : Ref sig .tc := ⟨.hbm, 402, rfl⟩
abbrev main_v372 : Ref sig .tc := ⟨.hbm, 403, rfl⟩
abbrev main_v373 : Ref sig .tc := ⟨.hbm, 404, rfl⟩
abbrev main_v374 : Ref sig .tc := ⟨.hbm, 405, rfl⟩
abbrev main_v375 : Ref sig .tc := ⟨.hbm, 406, rfl⟩
abbrev main_v376 : Ref sig .tc := ⟨.hbm, 407, rfl⟩
abbrev main_v377 : Ref sig .tc := ⟨.hbm, 408, rfl⟩
abbrev main_v378 : Ref sig .tc := ⟨.hbm, 409, rfl⟩
abbrev main_v379 : Ref sig .tc := ⟨.hbm, 410, rfl⟩
abbrev main_v380 : Ref sig .tc := ⟨.hbm, 411, rfl⟩
abbrev main_v381 : Ref sig .tc := ⟨.hbm, 412, rfl⟩
abbrev main_call8_cst : Ref sig .tc := ⟨.hbm, 413, rfl⟩
abbrev main_call8_v0 : Ref sig .tc := ⟨.hbm, 414, rfl⟩
abbrev main_v382 : Ref sig .tc := ⟨.hbm, 415, rfl⟩
abbrev main_cst_12 : Ref sig .tc := ⟨.hbm, 416, rfl⟩
abbrev main_v383 : Ref sig .tc := ⟨.hbm, 417, rfl⟩
abbrev main_cst_13 : Ref sig .tc := ⟨.hbm, 418, rfl⟩
abbrev main_v384 : Ref sig .tc := ⟨.hbm, 419, rfl⟩
abbrev main_v385 : Ref sig .tc := ⟨.hbm, 420, rfl⟩
abbrev main_v386 : Ref sig .tc := ⟨.hbm, 421, rfl⟩
abbrev main_v387 : Ref sig .tc := ⟨.hbm, 422, rfl⟩
abbrev main_v388 : Ref sig .tc := ⟨.hbm, 423, rfl⟩
abbrev main_v389 : Ref sig .tc := ⟨.hbm, 424, rfl⟩
abbrev main_v390 : Ref sig .tc := ⟨.hbm, 425, rfl⟩
abbrev main_v391 : Ref sig .tc := ⟨.hbm, 426, rfl⟩
abbrev main_v392 : Ref sig .tc := ⟨.hbm, 427, rfl⟩
abbrev main_v393 : Ref sig .tc := ⟨.hbm, 428, rfl⟩
abbrev main_v394 : Ref sig .tc := ⟨.hbm, 429, rfl⟩
abbrev main_cst_14 : Ref sig .tc := ⟨.hbm, 430, rfl⟩
abbrev main_v395 : Ref sig .tc := ⟨.hbm, 431, rfl⟩
abbrev main_cst_15 : Ref sig .tc := ⟨.hbm, 432, rfl⟩
abbrev main_v396 : Ref sig .tc := ⟨.hbm, 433, rfl⟩
abbrev main_v397 : Ref sig .tc := ⟨.hbm, 434, rfl⟩
abbrev main_v398 : Ref sig .tc := ⟨.hbm, 435, rfl⟩
abbrev main_v399 : Ref sig .tc := ⟨.hbm, 436, rfl⟩
abbrev main_v400 : Ref sig .tc := ⟨.hbm, 437, rfl⟩
abbrev main_v401 : Ref sig .tc := ⟨.hbm, 438, rfl⟩
abbrev main_cst_16 : Ref sig .tc := ⟨.hbm, 439, rfl⟩
abbrev main_v402 : Ref sig .tc := ⟨.hbm, 440, rfl⟩
abbrev main_v403 : Ref sig .tc := ⟨.hbm, 441, rfl⟩
abbrev main_v404 : Ref sig .tc := ⟨.hbm, 442, rfl⟩
abbrev main_v405 : Ref sig .tc := ⟨.hbm, 443, rfl⟩
abbrev main_cst_17 : Ref sig .tc := ⟨.hbm, 444, rfl⟩
abbrev main_v406 : Ref sig .tc := ⟨.hbm, 445, rfl⟩
abbrev main_v407 : Ref sig .tc := ⟨.hbm, 446, rfl⟩
abbrev main_cst_18 : Ref sig .tc := ⟨.hbm, 447, rfl⟩
abbrev main_v408 : Ref sig .tc := ⟨.hbm, 448, rfl⟩
abbrev main_v409 : Ref sig .tc := ⟨.hbm, 449, rfl⟩
abbrev main_v410 : Ref sig .tc := ⟨.hbm, 450, rfl⟩
abbrev main_v411 : Ref sig .tc := ⟨.hbm, 451, rfl⟩
abbrev main_call9_v0 : Ref sig .tc := ⟨.hbm, 452, rfl⟩
abbrev main_v412 : Ref sig .tc := ⟨.hbm, 453, rfl⟩
abbrev main_v413 : Ref sig .tc := ⟨.hbm, 454, rfl⟩
abbrev main_v414 : Ref sig .tc := ⟨.hbm, 455, rfl⟩
abbrev main_v415 : Ref sig .tc := ⟨.hbm, 456, rfl⟩
abbrev main_v416 : Ref sig .tc := ⟨.hbm, 457, rfl⟩
abbrev main_v417 : Ref sig .tc := ⟨.hbm, 458, rfl⟩
abbrev main_c_19 : Ref sig .tc := ⟨.hbm, 459, rfl⟩
abbrev main_call10_v0 : Ref sig .tc := ⟨.hbm, 460, rfl⟩
abbrev main_v418 : Ref sig .tc := ⟨.hbm, 461, rfl⟩
abbrev main_cst_20 : Ref sig .tc := ⟨.hbm, 462, rfl⟩
abbrev main_v419 : Ref sig .tc := ⟨.hbm, 463, rfl⟩
abbrev main_v420 : Ref sig .tc := ⟨.hbm, 464, rfl⟩
abbrev main_v421 : Ref sig .tc := ⟨.hbm, 465, rfl⟩
abbrev main_v422 : Ref sig .tc := ⟨.hbm, 466, rfl⟩
abbrev main_v423 : Ref sig .tc := ⟨.hbm, 467, rfl⟩
abbrev main_v424 : Ref sig .tc := ⟨.hbm, 468, rfl⟩
abbrev main_v425 : Ref sig .tc := ⟨.hbm, 469, rfl⟩
abbrev main_v426 : Ref sig .tc := ⟨.hbm, 470, rfl⟩
abbrev main_v427 : Ref sig .tc := ⟨.hbm, 471, rfl⟩
abbrev main_v428 : Ref sig .tc := ⟨.hbm, 472, rfl⟩
abbrev main_v429 : Ref sig .tc := ⟨.hbm, 473, rfl⟩
abbrev main_v430 : Ref sig .tc := ⟨.hbm, 474, rfl⟩
abbrev main_v431 : Ref sig .tc := ⟨.hbm, 475, rfl⟩
abbrev main_v432 : Ref sig .tc := ⟨.hbm, 476, rfl⟩
abbrev main_v433 : Ref sig .tc := ⟨.hbm, 477, rfl⟩
abbrev main_v434 : Ref sig .tc := ⟨.hbm, 478, rfl⟩
abbrev main_v435 : Ref sig .tc := ⟨.hbm, 479, rfl⟩
abbrev main_v436 : Ref sig .tc := ⟨.hbm, 480, rfl⟩
abbrev main_v437 : Ref sig .tc := ⟨.hbm, 481, rfl⟩
abbrev main_v438 : Ref sig .tc := ⟨.hbm, 482, rfl⟩
abbrev main_v439 : Ref sig .tc := ⟨.hbm, 483, rfl⟩
abbrev main_v440 : Ref sig .tc := ⟨.hbm, 484, rfl⟩
abbrev main_v441 : Ref sig .tc := ⟨.hbm, 485, rfl⟩
abbrev main_v442 : Ref sig .tc := ⟨.hbm, 486, rfl⟩
abbrev main_v443 : Ref sig .tc := ⟨.hbm, 487, rfl⟩
abbrev main_v444 : Ref sig .tc := ⟨.hbm, 488, rfl⟩
abbrev main_v445 : Ref sig .tc := ⟨.hbm, 489, rfl⟩
abbrev main_v446 : Ref sig .tc := ⟨.hbm, 490, rfl⟩
abbrev main_v447 : Ref sig .tc := ⟨.hbm, 491, rfl⟩
abbrev main_v448 : Ref sig .tc := ⟨.hbm, 492, rfl⟩
abbrev main_v449 : Ref sig .tc := ⟨.hbm, 493, rfl⟩
abbrev main_v450 : Ref sig .tc := ⟨.hbm, 494, rfl⟩
abbrev main_v451 : Ref sig .tc := ⟨.hbm, 495, rfl⟩
abbrev main_v452 : Ref sig .tc := ⟨.hbm, 496, rfl⟩
abbrev main_v453 : Ref sig .tc := ⟨.hbm, 497, rfl⟩
abbrev main_v454 : Ref sig .tc := ⟨.hbm, 498, rfl⟩
abbrev main_v455 : Ref sig .tc := ⟨.hbm, 499, rfl⟩
abbrev main_v456 : Ref sig .tc := ⟨.hbm, 500, rfl⟩
abbrev main_v457 : Ref sig .tc := ⟨.hbm, 501, rfl⟩
abbrev main_v458 : Ref sig .tc := ⟨.hbm, 502, rfl⟩
abbrev main_v459 : Ref sig .tc := ⟨.hbm, 503, rfl⟩
abbrev main_v460 : Ref sig .tc := ⟨.hbm, 504, rfl⟩
abbrev main_v461 : Ref sig .tc := ⟨.hbm, 505, rfl⟩
abbrev main_v462 : Ref sig .tc := ⟨.hbm, 506, rfl⟩
abbrev main_v463 : Ref sig .tc := ⟨.hbm, 507, rfl⟩
abbrev main_v464 : Ref sig .tc := ⟨.hbm, 508, rfl⟩
abbrev main_v465 : Ref sig .tc := ⟨.hbm, 509, rfl⟩
abbrev main_v466 : Ref sig .tc := ⟨.hbm, 510, rfl⟩
abbrev main_v467 : Ref sig .tc := ⟨.hbm, 511, rfl⟩
abbrev main_v468 : Ref sig .tc := ⟨.hbm, 512, rfl⟩
abbrev main_v469 : Ref sig .tc := ⟨.hbm, 513, rfl⟩
abbrev main_v470 : Ref sig .tc := ⟨.hbm, 514, rfl⟩
abbrev main_v471 : Ref sig .tc := ⟨.hbm, 515, rfl⟩
abbrev main_v472 : Ref sig .tc := ⟨.hbm, 516, rfl⟩
abbrev main_v473 : Ref sig .tc := ⟨.hbm, 517, rfl⟩
abbrev main_v474 : Ref sig .tc := ⟨.hbm, 518, rfl⟩
abbrev main_v475 : Ref sig .tc := ⟨.hbm, 519, rfl⟩
abbrev main_v476 : Ref sig .tc := ⟨.hbm, 520, rfl⟩
abbrev main_call11_cst : Ref sig .tc := ⟨.hbm, 521, rfl⟩
abbrev main_call11_v0 : Ref sig .tc := ⟨.hbm, 522, rfl⟩
abbrev main_v477 : Ref sig .tc := ⟨.hbm, 523, rfl⟩
abbrev main_v478 : Ref sig .tc := ⟨.hbm, 524, rfl⟩
abbrev main_v479 : Ref sig .tc := ⟨.hbm, 525, rfl⟩
abbrev main_v480 : Ref sig .tc := ⟨.hbm, 526, rfl⟩
abbrev main_v481 : Ref sig .tc := ⟨.hbm, 527, rfl⟩
abbrev main_c_21 : Ref sig .tc := ⟨.hbm, 528, rfl⟩
abbrev main_call12_v0 : Ref sig .tc := ⟨.hbm, 529, rfl⟩
abbrev main_v482 : Ref sig .tc := ⟨.hbm, 530, rfl⟩
abbrev main_cst_22 : Ref sig .tc := ⟨.hbm, 531, rfl⟩
abbrev main_v483 : Ref sig .tc := ⟨.hbm, 532, rfl⟩
abbrev main_v484 : Ref sig .tc := ⟨.hbm, 533, rfl⟩
abbrev main_v485 : Ref sig .tc := ⟨.hbm, 534, rfl⟩
abbrev main_v486 : Ref sig .tc := ⟨.hbm, 535, rfl⟩
abbrev main_v487 : Ref sig .tc := ⟨.hbm, 536, rfl⟩
abbrev main_v488 : Ref sig .tc := ⟨.hbm, 537, rfl⟩
abbrev main_v489 : Ref sig .tc := ⟨.hbm, 538, rfl⟩
abbrev main_v490 : Ref sig .tc := ⟨.hbm, 539, rfl⟩
abbrev main_v491 : Ref sig .tc := ⟨.hbm, 540, rfl⟩
abbrev main_v492 : Ref sig .tc := ⟨.hbm, 541, rfl⟩
abbrev main_v493 : Ref sig .tc := ⟨.hbm, 542, rfl⟩
abbrev main_v494 : Ref sig .tc := ⟨.hbm, 543, rfl⟩
abbrev main_v495 : Ref sig .tc := ⟨.hbm, 544, rfl⟩
abbrev main_v496 : Ref sig .tc := ⟨.hbm, 545, rfl⟩
abbrev main_v497 : Ref sig .tc := ⟨.hbm, 546, rfl⟩
abbrev main_v498 : Ref sig .tc := ⟨.hbm, 547, rfl⟩
abbrev main_v499 : Ref sig .tc := ⟨.hbm, 548, rfl⟩
abbrev main_v500 : Ref sig .tc := ⟨.hbm, 549, rfl⟩
abbrev main_v501 : Ref sig .tc := ⟨.hbm, 550, rfl⟩
abbrev main_v502 : Ref sig .tc := ⟨.hbm, 551, rfl⟩
abbrev main_v503 : Ref sig .tc := ⟨.hbm, 552, rfl⟩
abbrev main_v504 : Ref sig .tc := ⟨.hbm, 553, rfl⟩
abbrev main_v505 : Ref sig .tc := ⟨.hbm, 554, rfl⟩
abbrev main_v506 : Ref sig .tc := ⟨.hbm, 555, rfl⟩
abbrev main_v507 : Ref sig .tc := ⟨.hbm, 556, rfl⟩
abbrev main_v508 : Ref sig .tc := ⟨.hbm, 557, rfl⟩
abbrev main_v509 : Ref sig .tc := ⟨.hbm, 558, rfl⟩
abbrev main_v510 : Ref sig .tc := ⟨.hbm, 559, rfl⟩
abbrev main_v511 : Ref sig .tc := ⟨.hbm, 560, rfl⟩
abbrev main_v512 : Ref sig .tc := ⟨.hbm, 561, rfl⟩
abbrev main_v513 : Ref sig .tc := ⟨.hbm, 562, rfl⟩
abbrev main_v514 : Ref sig .tc := ⟨.hbm, 563, rfl⟩
abbrev main_v515 : Ref sig .tc := ⟨.hbm, 564, rfl⟩
abbrev main_v516 : Ref sig .tc := ⟨.hbm, 565, rfl⟩
abbrev main_v517 : Ref sig .tc := ⟨.hbm, 566, rfl⟩
abbrev main_v518 : Ref sig .tc := ⟨.hbm, 567, rfl⟩
abbrev main_v519 : Ref sig .tc := ⟨.hbm, 568, rfl⟩
abbrev main_v520 : Ref sig .tc := ⟨.hbm, 569, rfl⟩
abbrev main_v521 : Ref sig .tc := ⟨.hbm, 570, rfl⟩
abbrev main_v522 : Ref sig .tc := ⟨.hbm, 571, rfl⟩
abbrev main_v523 : Ref sig .tc := ⟨.hbm, 572, rfl⟩
abbrev main_v524 : Ref sig .tc := ⟨.hbm, 573, rfl⟩
abbrev main_v525 : Ref sig .tc := ⟨.hbm, 574, rfl⟩
abbrev main_v526 : Ref sig .tc := ⟨.hbm, 575, rfl⟩
abbrev main_v527 : Ref sig .tc := ⟨.hbm, 576, rfl⟩
abbrev main_v528 : Ref sig .tc := ⟨.hbm, 577, rfl⟩
abbrev main_v529 : Ref sig .tc := ⟨.hbm, 578, rfl⟩
abbrev main_v530 : Ref sig .tc := ⟨.hbm, 579, rfl⟩
abbrev main_v531 : Ref sig .tc := ⟨.hbm, 580, rfl⟩
abbrev main_v532 : Ref sig .tc := ⟨.hbm, 581, rfl⟩
abbrev main_v533 : Ref sig .tc := ⟨.hbm, 582, rfl⟩
abbrev main_v534 : Ref sig .tc := ⟨.hbm, 583, rfl⟩
abbrev main_v535 : Ref sig .tc := ⟨.hbm, 584, rfl⟩
abbrev main_v536 : Ref sig .tc := ⟨.hbm, 585, rfl⟩
abbrev main_v537 : Ref sig .tc := ⟨.hbm, 586, rfl⟩
abbrev main_v538 : Ref sig .tc := ⟨.hbm, 587, rfl⟩
abbrev main_v539 : Ref sig .tc := ⟨.hbm, 588, rfl⟩
abbrev main_v540 : Ref sig .tc := ⟨.hbm, 589, rfl⟩
abbrev main_call13_cst : Ref sig .tc := ⟨.hbm, 590, rfl⟩
abbrev main_call13_v0 : Ref sig .tc := ⟨.hbm, 591, rfl⟩
abbrev main_v541 : Ref sig .tc := ⟨.hbm, 592, rfl⟩
abbrev main_v542 : Ref sig .tc := ⟨.hbm, 593, rfl⟩
abbrev main_v543 : Ref sig .tc := ⟨.hbm, 594, rfl⟩
abbrev main_v544 : Ref sig .tc := ⟨.hbm, 595, rfl⟩
abbrev main_v545 : Ref sig .tc := ⟨.hbm, 596, rfl⟩
abbrev main_c_23 : Ref sig .tc := ⟨.hbm, 597, rfl⟩
abbrev main_call14_v0 : Ref sig .tc := ⟨.hbm, 598, rfl⟩
abbrev main_v546 : Ref sig .tc := ⟨.hbm, 599, rfl⟩
abbrev main_cst_24 : Ref sig .tc := ⟨.hbm, 600, rfl⟩
abbrev main_v547 : Ref sig .tc := ⟨.hbm, 601, rfl⟩
abbrev main_v548 : Ref sig .tc := ⟨.hbm, 602, rfl⟩
abbrev main_v549 : Ref sig .tc := ⟨.hbm, 603, rfl⟩
abbrev main_v550 : Ref sig .tc := ⟨.hbm, 604, rfl⟩
abbrev main_v551 : Ref sig .tc := ⟨.hbm, 605, rfl⟩
abbrev main_v552 : Ref sig .tc := ⟨.hbm, 606, rfl⟩
abbrev main_v553 : Ref sig .tc := ⟨.hbm, 607, rfl⟩
abbrev main_v554 : Ref sig .tc := ⟨.hbm, 608, rfl⟩
abbrev main_v555 : Ref sig .tc := ⟨.hbm, 609, rfl⟩
abbrev main_v556 : Ref sig .tc := ⟨.hbm, 610, rfl⟩
abbrev main_v557 : Ref sig .tc := ⟨.hbm, 611, rfl⟩
abbrev main_v558 : Ref sig .tc := ⟨.hbm, 612, rfl⟩
abbrev main_v559 : Ref sig .tc := ⟨.hbm, 613, rfl⟩
abbrev main_v560 : Ref sig .tc := ⟨.hbm, 614, rfl⟩
abbrev main_v561 : Ref sig .tc := ⟨.hbm, 615, rfl⟩
abbrev main_v562 : Ref sig .tc := ⟨.hbm, 616, rfl⟩
abbrev main_v563 : Ref sig .tc := ⟨.hbm, 617, rfl⟩
abbrev main_v564 : Ref sig .tc := ⟨.hbm, 618, rfl⟩
abbrev main_v565 : Ref sig .tc := ⟨.hbm, 619, rfl⟩
abbrev main_v566 : Ref sig .tc := ⟨.hbm, 620, rfl⟩
abbrev main_v567 : Ref sig .tc := ⟨.hbm, 621, rfl⟩
abbrev main_v568 : Ref sig .tc := ⟨.hbm, 622, rfl⟩
abbrev main_v569 : Ref sig .tc := ⟨.hbm, 623, rfl⟩
abbrev main_v570 : Ref sig .tc := ⟨.hbm, 624, rfl⟩
abbrev main_v571 : Ref sig .tc := ⟨.hbm, 625, rfl⟩
abbrev main_v572 : Ref sig .tc := ⟨.hbm, 626, rfl⟩
abbrev main_v573 : Ref sig .tc := ⟨.hbm, 627, rfl⟩
abbrev main_v574 : Ref sig .tc := ⟨.hbm, 628, rfl⟩
abbrev main_v575 : Ref sig .tc := ⟨.hbm, 629, rfl⟩
abbrev main_v576 : Ref sig .tc := ⟨.hbm, 630, rfl⟩
abbrev main_v577 : Ref sig .tc := ⟨.hbm, 631, rfl⟩
abbrev main_v578 : Ref sig .tc := ⟨.hbm, 632, rfl⟩
abbrev main_v579 : Ref sig .tc := ⟨.hbm, 633, rfl⟩
abbrev main_v580 : Ref sig .tc := ⟨.hbm, 634, rfl⟩
abbrev main_v581 : Ref sig .tc := ⟨.hbm, 635, rfl⟩
abbrev main_v582 : Ref sig .tc := ⟨.hbm, 636, rfl⟩
abbrev main_v583 : Ref sig .tc := ⟨.hbm, 637, rfl⟩
abbrev main_v584 : Ref sig .tc := ⟨.hbm, 638, rfl⟩
abbrev main_v585 : Ref sig .tc := ⟨.hbm, 639, rfl⟩
abbrev main_v586 : Ref sig .tc := ⟨.hbm, 640, rfl⟩
abbrev main_v587 : Ref sig .tc := ⟨.hbm, 641, rfl⟩
abbrev main_v588 : Ref sig .tc := ⟨.hbm, 642, rfl⟩
abbrev main_v589 : Ref sig .tc := ⟨.hbm, 643, rfl⟩
abbrev main_v590 : Ref sig .tc := ⟨.hbm, 644, rfl⟩
abbrev main_v591 : Ref sig .tc := ⟨.hbm, 645, rfl⟩
abbrev main_v592 : Ref sig .tc := ⟨.hbm, 646, rfl⟩
abbrev main_v593 : Ref sig .tc := ⟨.hbm, 647, rfl⟩
abbrev main_v594 : Ref sig .tc := ⟨.hbm, 648, rfl⟩
abbrev main_v595 : Ref sig .tc := ⟨.hbm, 649, rfl⟩
abbrev main_v596 : Ref sig .tc := ⟨.hbm, 650, rfl⟩
abbrev main_v597 : Ref sig .tc := ⟨.hbm, 651, rfl⟩
abbrev main_v598 : Ref sig .tc := ⟨.hbm, 652, rfl⟩
abbrev main_v599 : Ref sig .tc := ⟨.hbm, 653, rfl⟩
abbrev main_v600 : Ref sig .tc := ⟨.hbm, 654, rfl⟩
abbrev main_v601 : Ref sig .tc := ⟨.hbm, 655, rfl⟩
abbrev main_v602 : Ref sig .tc := ⟨.hbm, 656, rfl⟩
abbrev main_v603 : Ref sig .tc := ⟨.hbm, 657, rfl⟩
abbrev main_v604 : Ref sig .tc := ⟨.hbm, 658, rfl⟩
abbrev main_call15_cst : Ref sig .tc := ⟨.hbm, 659, rfl⟩
abbrev main_call15_v0 : Ref sig .tc := ⟨.hbm, 660, rfl⟩
abbrev main_v605 : Ref sig .tc := ⟨.hbm, 661, rfl⟩
abbrev main_cst_25 : Ref sig .tc := ⟨.hbm, 662, rfl⟩
abbrev main_v606 : Ref sig .tc := ⟨.hbm, 663, rfl⟩
abbrev main_cst_26 : Ref sig .tc := ⟨.hbm, 664, rfl⟩
abbrev main_v607 : Ref sig .tc := ⟨.hbm, 665, rfl⟩
abbrev main_v608 : Ref sig .tc := ⟨.hbm, 666, rfl⟩
abbrev main_v609 : Ref sig .tc := ⟨.hbm, 667, rfl⟩
abbrev main_v610 : Ref sig .tc := ⟨.hbm, 668, rfl⟩
abbrev main_v611 : Ref sig .tc := ⟨.hbm, 669, rfl⟩
abbrev main_v612 : Ref sig .tc := ⟨.hbm, 670, rfl⟩
abbrev main_v613 : Ref sig .tc := ⟨.hbm, 671, rfl⟩
abbrev main_v614 : Ref sig .tc := ⟨.hbm, 672, rfl⟩
abbrev main_v615 : Ref sig .tc := ⟨.hbm, 673, rfl⟩
abbrev main_v616 : Ref sig .tc := ⟨.hbm, 674, rfl⟩
abbrev main_v617 : Ref sig .tc := ⟨.hbm, 675, rfl⟩
abbrev main_cst_27 : Ref sig .tc := ⟨.hbm, 676, rfl⟩
abbrev main_v618 : Ref sig .tc := ⟨.hbm, 677, rfl⟩
abbrev main_cst_28 : Ref sig .tc := ⟨.hbm, 678, rfl⟩
abbrev main_v619 : Ref sig .tc := ⟨.hbm, 679, rfl⟩
abbrev main_v620 : Ref sig .tc := ⟨.hbm, 680, rfl⟩
abbrev main_v621 : Ref sig .tc := ⟨.hbm, 681, rfl⟩
abbrev main_v622 : Ref sig .tc := ⟨.hbm, 682, rfl⟩
abbrev main_v623 : Ref sig .tc := ⟨.hbm, 683, rfl⟩
abbrev main_v624 : Ref sig .tc := ⟨.hbm, 684, rfl⟩
abbrev main_cst_29 : Ref sig .tc := ⟨.hbm, 685, rfl⟩
abbrev main_v625 : Ref sig .tc := ⟨.hbm, 686, rfl⟩
abbrev main_v626 : Ref sig .tc := ⟨.hbm, 687, rfl⟩
abbrev main_v627 : Ref sig .tc := ⟨.hbm, 688, rfl⟩
abbrev main_v628 : Ref sig .tc := ⟨.hbm, 689, rfl⟩
abbrev main_cst_30 : Ref sig .tc := ⟨.hbm, 690, rfl⟩
abbrev main_v629 : Ref sig .tc := ⟨.hbm, 691, rfl⟩
abbrev main_v630 : Ref sig .tc := ⟨.hbm, 692, rfl⟩
abbrev main_cst_31 : Ref sig .tc := ⟨.hbm, 693, rfl⟩
abbrev main_v631 : Ref sig .tc := ⟨.hbm, 694, rfl⟩
abbrev main_v632 : Ref sig .tc := ⟨.hbm, 695, rfl⟩
abbrev main_v633 : Ref sig .tc := ⟨.hbm, 696, rfl⟩
abbrev main_v634 : Ref sig .tc := ⟨.hbm, 697, rfl⟩
abbrev main_call16_v0 : Ref sig .tc := ⟨.hbm, 698, rfl⟩
abbrev main_v635 : Ref sig .tc := ⟨.hbm, 699, rfl⟩
abbrev main_v636 : Ref sig .tc := ⟨.hbm, 700, rfl⟩
abbrev main_v637 : Ref sig .tc := ⟨.hbm, 701, rfl⟩
abbrev main_v638 : Ref sig .tc := ⟨.hbm, 702, rfl⟩
abbrev main_v639 : Ref sig .tc := ⟨.hbm, 703, rfl⟩
abbrev main_v640 : Ref sig .tc := ⟨.hbm, 704, rfl⟩
abbrev main_c_32 : Ref sig .tc := ⟨.hbm, 705, rfl⟩
abbrev main_call17_v0 : Ref sig .tc := ⟨.hbm, 706, rfl⟩
abbrev main_v641 : Ref sig .tc := ⟨.hbm, 707, rfl⟩
abbrev main_cst_33 : Ref sig .tc := ⟨.hbm, 708, rfl⟩
abbrev main_v642 : Ref sig .tc := ⟨.hbm, 709, rfl⟩
abbrev main_v643 : Ref sig .tc := ⟨.hbm, 710, rfl⟩
abbrev main_v644 : Ref sig .tc := ⟨.hbm, 711, rfl⟩
abbrev main_v645 : Ref sig .tc := ⟨.hbm, 712, rfl⟩
abbrev main_v646 : Ref sig .tc := ⟨.hbm, 713, rfl⟩
abbrev main_v647 : Ref sig .tc := ⟨.hbm, 714, rfl⟩
abbrev main_v648 : Ref sig .tc := ⟨.hbm, 715, rfl⟩
abbrev main_v649 : Ref sig .tc := ⟨.hbm, 716, rfl⟩
abbrev main_v650 : Ref sig .tc := ⟨.hbm, 717, rfl⟩
abbrev main_v651 : Ref sig .tc := ⟨.hbm, 718, rfl⟩
abbrev main_v652 : Ref sig .tc := ⟨.hbm, 719, rfl⟩
abbrev main_v653 : Ref sig .tc := ⟨.hbm, 720, rfl⟩
abbrev main_v654 : Ref sig .tc := ⟨.hbm, 721, rfl⟩
abbrev main_v655 : Ref sig .tc := ⟨.hbm, 722, rfl⟩
abbrev main_v656 : Ref sig .tc := ⟨.hbm, 723, rfl⟩
abbrev main_v657 : Ref sig .tc := ⟨.hbm, 724, rfl⟩
abbrev main_v658 : Ref sig .tc := ⟨.hbm, 725, rfl⟩
abbrev main_v659 : Ref sig .tc := ⟨.hbm, 726, rfl⟩
abbrev main_v660 : Ref sig .tc := ⟨.hbm, 727, rfl⟩
abbrev main_v661 : Ref sig .tc := ⟨.hbm, 728, rfl⟩
abbrev main_v662 : Ref sig .tc := ⟨.hbm, 729, rfl⟩
abbrev main_v663 : Ref sig .tc := ⟨.hbm, 730, rfl⟩
abbrev main_v664 : Ref sig .tc := ⟨.hbm, 731, rfl⟩
abbrev main_v665 : Ref sig .tc := ⟨.hbm, 732, rfl⟩
abbrev main_v666 : Ref sig .tc := ⟨.hbm, 733, rfl⟩
abbrev main_v667 : Ref sig .tc := ⟨.hbm, 734, rfl⟩
abbrev main_v668 : Ref sig .tc := ⟨.hbm, 735, rfl⟩
abbrev main_v669 : Ref sig .tc := ⟨.hbm, 736, rfl⟩
abbrev main_v670 : Ref sig .tc := ⟨.hbm, 737, rfl⟩
abbrev main_v671 : Ref sig .tc := ⟨.hbm, 738, rfl⟩
abbrev main_v672 : Ref sig .tc := ⟨.hbm, 739, rfl⟩
abbrev main_v673 : Ref sig .tc := ⟨.hbm, 740, rfl⟩
abbrev main_v674 : Ref sig .tc := ⟨.hbm, 741, rfl⟩
abbrev main_v675 : Ref sig .tc := ⟨.hbm, 742, rfl⟩
abbrev main_v676 : Ref sig .tc := ⟨.hbm, 743, rfl⟩
abbrev main_v677 : Ref sig .tc := ⟨.hbm, 744, rfl⟩
abbrev main_v678 : Ref sig .tc := ⟨.hbm, 745, rfl⟩
abbrev main_v679 : Ref sig .tc := ⟨.hbm, 746, rfl⟩
abbrev main_v680 : Ref sig .tc := ⟨.hbm, 747, rfl⟩
abbrev main_v681 : Ref sig .tc := ⟨.hbm, 748, rfl⟩
abbrev main_v682 : Ref sig .tc := ⟨.hbm, 749, rfl⟩
abbrev main_v683 : Ref sig .tc := ⟨.hbm, 750, rfl⟩
abbrev main_v684 : Ref sig .tc := ⟨.hbm, 751, rfl⟩
abbrev main_v685 : Ref sig .tc := ⟨.hbm, 752, rfl⟩
abbrev main_v686 : Ref sig .tc := ⟨.hbm, 753, rfl⟩
abbrev main_v687 : Ref sig .tc := ⟨.hbm, 754, rfl⟩
abbrev main_v688 : Ref sig .tc := ⟨.hbm, 755, rfl⟩
abbrev main_v689 : Ref sig .tc := ⟨.hbm, 756, rfl⟩
abbrev main_v690 : Ref sig .tc := ⟨.hbm, 757, rfl⟩
abbrev main_v691 : Ref sig .tc := ⟨.hbm, 758, rfl⟩
abbrev main_v692 : Ref sig .tc := ⟨.hbm, 759, rfl⟩
abbrev main_v693 : Ref sig .tc := ⟨.hbm, 760, rfl⟩
abbrev main_v694 : Ref sig .tc := ⟨.hbm, 761, rfl⟩
abbrev main_v695 : Ref sig .tc := ⟨.hbm, 762, rfl⟩
abbrev main_v696 : Ref sig .tc := ⟨.hbm, 763, rfl⟩
abbrev main_v697 : Ref sig .tc := ⟨.hbm, 764, rfl⟩
abbrev main_v698 : Ref sig .tc := ⟨.hbm, 765, rfl⟩
abbrev main_v699 : Ref sig .tc := ⟨.hbm, 766, rfl⟩
abbrev main_call18_cst : Ref sig .tc := ⟨.hbm, 767, rfl⟩
abbrev main_call18_v0 : Ref sig .tc := ⟨.hbm, 768, rfl⟩
abbrev main_v700 : Ref sig .tc := ⟨.hbm, 769, rfl⟩
abbrev main_v701 : Ref sig .tc := ⟨.hbm, 770, rfl⟩
abbrev main_v702 : Ref sig .tc := ⟨.hbm, 771, rfl⟩
abbrev main_v703 : Ref sig .tc := ⟨.hbm, 772, rfl⟩
abbrev main_v704 : Ref sig .tc := ⟨.hbm, 773, rfl⟩
abbrev main_c_34 : Ref sig .tc := ⟨.hbm, 774, rfl⟩
abbrev main_call19_v0 : Ref sig .tc := ⟨.hbm, 775, rfl⟩
abbrev main_v705 : Ref sig .tc := ⟨.hbm, 776, rfl⟩
abbrev main_cst_35 : Ref sig .tc := ⟨.hbm, 777, rfl⟩
abbrev main_v706 : Ref sig .tc := ⟨.hbm, 778, rfl⟩
abbrev main_v707 : Ref sig .tc := ⟨.hbm, 779, rfl⟩
abbrev main_v708 : Ref sig .tc := ⟨.hbm, 780, rfl⟩
abbrev main_v709 : Ref sig .tc := ⟨.hbm, 781, rfl⟩
abbrev main_v710 : Ref sig .tc := ⟨.hbm, 782, rfl⟩
abbrev main_v711 : Ref sig .tc := ⟨.hbm, 783, rfl⟩
abbrev main_v712 : Ref sig .tc := ⟨.hbm, 784, rfl⟩
abbrev main_v713 : Ref sig .tc := ⟨.hbm, 785, rfl⟩
abbrev main_v714 : Ref sig .tc := ⟨.hbm, 786, rfl⟩
abbrev main_v715 : Ref sig .tc := ⟨.hbm, 787, rfl⟩
abbrev main_v716 : Ref sig .tc := ⟨.hbm, 788, rfl⟩
abbrev main_v717 : Ref sig .tc := ⟨.hbm, 789, rfl⟩
abbrev main_v718 : Ref sig .tc := ⟨.hbm, 790, rfl⟩
abbrev main_v719 : Ref sig .tc := ⟨.hbm, 791, rfl⟩
abbrev main_v720 : Ref sig .tc := ⟨.hbm, 792, rfl⟩
abbrev main_v721 : Ref sig .tc := ⟨.hbm, 793, rfl⟩
abbrev main_v722 : Ref sig .tc := ⟨.hbm, 794, rfl⟩
abbrev main_v723 : Ref sig .tc := ⟨.hbm, 795, rfl⟩
abbrev main_v724 : Ref sig .tc := ⟨.hbm, 796, rfl⟩
abbrev main_v725 : Ref sig .tc := ⟨.hbm, 797, rfl⟩
abbrev main_v726 : Ref sig .tc := ⟨.hbm, 798, rfl⟩
abbrev main_v727 : Ref sig .tc := ⟨.hbm, 799, rfl⟩
abbrev main_v728 : Ref sig .tc := ⟨.hbm, 800, rfl⟩
abbrev main_v729 : Ref sig .tc := ⟨.hbm, 801, rfl⟩
abbrev main_v730 : Ref sig .tc := ⟨.hbm, 802, rfl⟩
abbrev main_v731 : Ref sig .tc := ⟨.hbm, 803, rfl⟩
abbrev main_v732 : Ref sig .tc := ⟨.hbm, 804, rfl⟩
abbrev main_v733 : Ref sig .tc := ⟨.hbm, 805, rfl⟩
abbrev main_v734 : Ref sig .tc := ⟨.hbm, 806, rfl⟩
abbrev main_v735 : Ref sig .tc := ⟨.hbm, 807, rfl⟩
abbrev main_v736 : Ref sig .tc := ⟨.hbm, 808, rfl⟩
abbrev main_v737 : Ref sig .tc := ⟨.hbm, 809, rfl⟩
abbrev main_v738 : Ref sig .tc := ⟨.hbm, 810, rfl⟩
abbrev main_v739 : Ref sig .tc := ⟨.hbm, 811, rfl⟩
abbrev main_v740 : Ref sig .tc := ⟨.hbm, 812, rfl⟩
abbrev main_v741 : Ref sig .tc := ⟨.hbm, 813, rfl⟩
abbrev main_v742 : Ref sig .tc := ⟨.hbm, 814, rfl⟩
abbrev main_v743 : Ref sig .tc := ⟨.hbm, 815, rfl⟩
abbrev main_v744 : Ref sig .tc := ⟨.hbm, 816, rfl⟩
abbrev main_v745 : Ref sig .tc := ⟨.hbm, 817, rfl⟩
abbrev main_v746 : Ref sig .tc := ⟨.hbm, 818, rfl⟩
abbrev main_v747 : Ref sig .tc := ⟨.hbm, 819, rfl⟩
abbrev main_v748 : Ref sig .tc := ⟨.hbm, 820, rfl⟩
abbrev main_v749 : Ref sig .tc := ⟨.hbm, 821, rfl⟩
abbrev main_v750 : Ref sig .tc := ⟨.hbm, 822, rfl⟩
abbrev main_v751 : Ref sig .tc := ⟨.hbm, 823, rfl⟩
abbrev main_v752 : Ref sig .tc := ⟨.hbm, 824, rfl⟩
abbrev main_v753 : Ref sig .tc := ⟨.hbm, 825, rfl⟩
abbrev main_v754 : Ref sig .tc := ⟨.hbm, 826, rfl⟩
abbrev main_v755 : Ref sig .tc := ⟨.hbm, 827, rfl⟩
abbrev main_v756 : Ref sig .tc := ⟨.hbm, 828, rfl⟩
abbrev main_v757 : Ref sig .tc := ⟨.hbm, 829, rfl⟩
abbrev main_v758 : Ref sig .tc := ⟨.hbm, 830, rfl⟩
abbrev main_v759 : Ref sig .tc := ⟨.hbm, 831, rfl⟩
abbrev main_v760 : Ref sig .tc := ⟨.hbm, 832, rfl⟩
abbrev main_v761 : Ref sig .tc := ⟨.hbm, 833, rfl⟩
abbrev main_v762 : Ref sig .tc := ⟨.hbm, 834, rfl⟩
abbrev main_v763 : Ref sig .tc := ⟨.hbm, 835, rfl⟩
abbrev main_call20_cst : Ref sig .tc := ⟨.hbm, 836, rfl⟩
abbrev main_call20_v0 : Ref sig .tc := ⟨.hbm, 837, rfl⟩
abbrev main_v764 : Ref sig .tc := ⟨.hbm, 838, rfl⟩
abbrev main_v765 : Ref sig .tc := ⟨.hbm, 839, rfl⟩
abbrev main_v766 : Ref sig .tc := ⟨.hbm, 840, rfl⟩
abbrev main_v767 : Ref sig .tc := ⟨.hbm, 841, rfl⟩
abbrev main_v768 : Ref sig .tc := ⟨.hbm, 842, rfl⟩
abbrev main_c_36 : Ref sig .tc := ⟨.hbm, 843, rfl⟩
abbrev main_call21_v0 : Ref sig .tc := ⟨.hbm, 844, rfl⟩
abbrev main_v769 : Ref sig .tc := ⟨.hbm, 845, rfl⟩
abbrev main_cst_37 : Ref sig .tc := ⟨.hbm, 846, rfl⟩
abbrev main_v770 : Ref sig .tc := ⟨.hbm, 847, rfl⟩
abbrev main_v771 : Ref sig .tc := ⟨.hbm, 848, rfl⟩
abbrev main_v772 : Ref sig .tc := ⟨.hbm, 849, rfl⟩
abbrev main_v773 : Ref sig .tc := ⟨.hbm, 850, rfl⟩
abbrev main_v774 : Ref sig .tc := ⟨.hbm, 851, rfl⟩
abbrev main_v775 : Ref sig .tc := ⟨.hbm, 852, rfl⟩
abbrev main_v776 : Ref sig .tc := ⟨.hbm, 853, rfl⟩
abbrev main_v777 : Ref sig .tc := ⟨.hbm, 854, rfl⟩
abbrev main_v778 : Ref sig .tc := ⟨.hbm, 855, rfl⟩
abbrev main_v779 : Ref sig .tc := ⟨.hbm, 856, rfl⟩
abbrev main_v780 : Ref sig .tc := ⟨.hbm, 857, rfl⟩
abbrev main_v781 : Ref sig .tc := ⟨.hbm, 858, rfl⟩
abbrev main_v782 : Ref sig .tc := ⟨.hbm, 859, rfl⟩
abbrev main_v783 : Ref sig .tc := ⟨.hbm, 860, rfl⟩
abbrev main_v784 : Ref sig .tc := ⟨.hbm, 861, rfl⟩
abbrev main_v785 : Ref sig .tc := ⟨.hbm, 862, rfl⟩
abbrev main_v786 : Ref sig .tc := ⟨.hbm, 863, rfl⟩
abbrev main_v787 : Ref sig .tc := ⟨.hbm, 864, rfl⟩
abbrev main_v788 : Ref sig .tc := ⟨.hbm, 865, rfl⟩
abbrev main_v789 : Ref sig .tc := ⟨.hbm, 866, rfl⟩
abbrev main_v790 : Ref sig .tc := ⟨.hbm, 867, rfl⟩
abbrev main_v791 : Ref sig .tc := ⟨.hbm, 868, rfl⟩
abbrev main_v792 : Ref sig .tc := ⟨.hbm, 869, rfl⟩
abbrev main_v793 : Ref sig .tc := ⟨.hbm, 870, rfl⟩
abbrev main_v794 : Ref sig .tc := ⟨.hbm, 871, rfl⟩
abbrev main_v795 : Ref sig .tc := ⟨.hbm, 872, rfl⟩
abbrev main_v796 : Ref sig .tc := ⟨.hbm, 873, rfl⟩
abbrev main_v797 : Ref sig .tc := ⟨.hbm, 874, rfl⟩
abbrev main_v798 : Ref sig .tc := ⟨.hbm, 875, rfl⟩
abbrev main_v799 : Ref sig .tc := ⟨.hbm, 876, rfl⟩
abbrev main_v800 : Ref sig .tc := ⟨.hbm, 877, rfl⟩
abbrev main_v801 : Ref sig .tc := ⟨.hbm, 878, rfl⟩
abbrev main_v802 : Ref sig .tc := ⟨.hbm, 879, rfl⟩
abbrev main_v803 : Ref sig .tc := ⟨.hbm, 880, rfl⟩
abbrev main_v804 : Ref sig .tc := ⟨.hbm, 881, rfl⟩
abbrev main_v805 : Ref sig .tc := ⟨.hbm, 882, rfl⟩
abbrev main_v806 : Ref sig .tc := ⟨.hbm, 883, rfl⟩
abbrev main_v807 : Ref sig .tc := ⟨.hbm, 884, rfl⟩
abbrev main_v808 : Ref sig .tc := ⟨.hbm, 885, rfl⟩
abbrev main_v809 : Ref sig .tc := ⟨.hbm, 886, rfl⟩
abbrev main_v810 : Ref sig .tc := ⟨.hbm, 887, rfl⟩
abbrev main_v811 : Ref sig .tc := ⟨.hbm, 888, rfl⟩
abbrev main_v812 : Ref sig .tc := ⟨.hbm, 889, rfl⟩
abbrev main_v813 : Ref sig .tc := ⟨.hbm, 890, rfl⟩
abbrev main_v814 : Ref sig .tc := ⟨.hbm, 891, rfl⟩
abbrev main_v815 : Ref sig .tc := ⟨.hbm, 892, rfl⟩
abbrev main_v816 : Ref sig .tc := ⟨.hbm, 893, rfl⟩
abbrev main_v817 : Ref sig .tc := ⟨.hbm, 894, rfl⟩
abbrev main_v818 : Ref sig .tc := ⟨.hbm, 895, rfl⟩
abbrev main_v819 : Ref sig .tc := ⟨.hbm, 896, rfl⟩
abbrev main_v820 : Ref sig .tc := ⟨.hbm, 897, rfl⟩
abbrev main_v821 : Ref sig .tc := ⟨.hbm, 898, rfl⟩
abbrev main_v822 : Ref sig .tc := ⟨.hbm, 899, rfl⟩
abbrev main_v823 : Ref sig .tc := ⟨.hbm, 900, rfl⟩
abbrev main_v824 : Ref sig .tc := ⟨.hbm, 901, rfl⟩
abbrev main_v825 : Ref sig .tc := ⟨.hbm, 902, rfl⟩
abbrev main_v826 : Ref sig .tc := ⟨.hbm, 903, rfl⟩
abbrev main_v827 : Ref sig .tc := ⟨.hbm, 904, rfl⟩
abbrev main_call22_cst : Ref sig .tc := ⟨.hbm, 905, rfl⟩
abbrev main_call22_v0 : Ref sig .tc := ⟨.hbm, 906, rfl⟩
abbrev main_v828 : Ref sig .tc := ⟨.hbm, 907, rfl⟩
abbrev main_cst_38 : Ref sig .tc := ⟨.hbm, 908, rfl⟩
abbrev main_v829 : Ref sig .tc := ⟨.hbm, 909, rfl⟩
abbrev main_cst_39 : Ref sig .tc := ⟨.hbm, 910, rfl⟩
abbrev main_v830 : Ref sig .tc := ⟨.hbm, 911, rfl⟩
abbrev main_v831 : Ref sig .tc := ⟨.hbm, 912, rfl⟩
abbrev main_v832 : Ref sig .tc := ⟨.hbm, 913, rfl⟩
abbrev main_v833 : Ref sig .tc := ⟨.hbm, 914, rfl⟩
abbrev main_v834 : Ref sig .tc := ⟨.hbm, 915, rfl⟩
abbrev main_v835 : Ref sig .tc := ⟨.hbm, 916, rfl⟩
abbrev main_v836 : Ref sig .tc := ⟨.hbm, 917, rfl⟩
abbrev main_v837 : Ref sig .tc := ⟨.hbm, 918, rfl⟩
abbrev main_v838 : Ref sig .tc := ⟨.hbm, 919, rfl⟩
abbrev main_v839 : Ref sig .tc := ⟨.hbm, 920, rfl⟩
abbrev main_v840 : Ref sig .tc := ⟨.hbm, 921, rfl⟩
abbrev main_cst_40 : Ref sig .tc := ⟨.hbm, 922, rfl⟩
abbrev main_v841 : Ref sig .tc := ⟨.hbm, 923, rfl⟩
abbrev main_cst_41 : Ref sig .tc := ⟨.hbm, 924, rfl⟩
abbrev main_v842 : Ref sig .tc := ⟨.hbm, 925, rfl⟩
abbrev main_v843 : Ref sig .tc := ⟨.hbm, 926, rfl⟩
abbrev main_v844 : Ref sig .tc := ⟨.hbm, 927, rfl⟩
abbrev main_v845 : Ref sig .tc := ⟨.hbm, 928, rfl⟩
abbrev main_v846 : Ref sig .tc := ⟨.hbm, 929, rfl⟩
abbrev main_v847 : Ref sig .tc := ⟨.hbm, 930, rfl⟩
abbrev main_cst_42 : Ref sig .tc := ⟨.hbm, 931, rfl⟩
abbrev main_v848 : Ref sig .tc := ⟨.hbm, 932, rfl⟩
abbrev main_v849 : Ref sig .tc := ⟨.hbm, 933, rfl⟩
abbrev main_v850 : Ref sig .tc := ⟨.hbm, 934, rfl⟩
abbrev main_v851 : Ref sig .tc := ⟨.hbm, 935, rfl⟩
abbrev main_cst_43 : Ref sig .tc := ⟨.hbm, 936, rfl⟩
abbrev main_v852 : Ref sig .tc := ⟨.hbm, 937, rfl⟩
abbrev main_v853 : Ref sig .tc := ⟨.hbm, 938, rfl⟩
abbrev main_cst_44 : Ref sig .tc := ⟨.hbm, 939, rfl⟩
abbrev main_v854 : Ref sig .tc := ⟨.hbm, 940, rfl⟩
abbrev main_v855 : Ref sig .tc := ⟨.hbm, 941, rfl⟩
abbrev main_v856 : Ref sig .tc := ⟨.hbm, 942, rfl⟩
abbrev main_v857 : Ref sig .tc := ⟨.hbm, 943, rfl⟩
abbrev main_call23_v0 : Ref sig .tc := ⟨.hbm, 944, rfl⟩
abbrev main_v858 : Ref sig .tc := ⟨.hbm, 945, rfl⟩
abbrev main_v859 : Ref sig .tc := ⟨.hbm, 946, rfl⟩
abbrev main_v860 : Ref sig .tc := ⟨.hbm, 947, rfl⟩
abbrev main_v861 : Ref sig .tc := ⟨.hbm, 948, rfl⟩
abbrev main_v862 : Ref sig .tc := ⟨.hbm, 949, rfl⟩
abbrev main_v863 : Ref sig .tc := ⟨.hbm, 950, rfl⟩
abbrev main_c_45 : Ref sig .tc := ⟨.hbm, 951, rfl⟩
abbrev main_call24_v0 : Ref sig .tc := ⟨.hbm, 952, rfl⟩
abbrev main_v864 : Ref sig .tc := ⟨.hbm, 953, rfl⟩
abbrev main_cst_46 : Ref sig .tc := ⟨.hbm, 954, rfl⟩
abbrev main_v865 : Ref sig .tc := ⟨.hbm, 955, rfl⟩
abbrev main_v866 : Ref sig .tc := ⟨.hbm, 956, rfl⟩
abbrev main_v867 : Ref sig .tc := ⟨.hbm, 957, rfl⟩
abbrev main_v868 : Ref sig .tc := ⟨.hbm, 958, rfl⟩
abbrev main_v869 : Ref sig .tc := ⟨.hbm, 959, rfl⟩
abbrev main_v870 : Ref sig .tc := ⟨.hbm, 960, rfl⟩
abbrev main_v871 : Ref sig .tc := ⟨.hbm, 961, rfl⟩
abbrev main_v872 : Ref sig .tc := ⟨.hbm, 962, rfl⟩
abbrev main_v873 : Ref sig .tc := ⟨.hbm, 963, rfl⟩
abbrev main_v874 : Ref sig .tc := ⟨.hbm, 964, rfl⟩
abbrev main_v875 : Ref sig .tc := ⟨.hbm, 965, rfl⟩
abbrev main_v876 : Ref sig .tc := ⟨.hbm, 966, rfl⟩
abbrev main_v877 : Ref sig .tc := ⟨.hbm, 967, rfl⟩
abbrev main_v878 : Ref sig .tc := ⟨.hbm, 968, rfl⟩
abbrev main_v879 : Ref sig .tc := ⟨.hbm, 969, rfl⟩
abbrev main_v880 : Ref sig .tc := ⟨.hbm, 970, rfl⟩
abbrev main_v881 : Ref sig .tc := ⟨.hbm, 971, rfl⟩
abbrev main_v882 : Ref sig .tc := ⟨.hbm, 972, rfl⟩
abbrev main_v883 : Ref sig .tc := ⟨.hbm, 973, rfl⟩
abbrev main_v884 : Ref sig .tc := ⟨.hbm, 974, rfl⟩
abbrev main_v885 : Ref sig .tc := ⟨.hbm, 975, rfl⟩
abbrev main_v886 : Ref sig .tc := ⟨.hbm, 976, rfl⟩
abbrev main_v887 : Ref sig .tc := ⟨.hbm, 977, rfl⟩
abbrev main_v888 : Ref sig .tc := ⟨.hbm, 978, rfl⟩
abbrev main_v889 : Ref sig .tc := ⟨.hbm, 979, rfl⟩
abbrev main_v890 : Ref sig .tc := ⟨.hbm, 980, rfl⟩
abbrev main_v891 : Ref sig .tc := ⟨.hbm, 981, rfl⟩
abbrev main_v892 : Ref sig .tc := ⟨.hbm, 982, rfl⟩
abbrev main_v893 : Ref sig .tc := ⟨.hbm, 983, rfl⟩
abbrev main_v894 : Ref sig .tc := ⟨.hbm, 984, rfl⟩
abbrev main_v895 : Ref sig .tc := ⟨.hbm, 985, rfl⟩
abbrev main_v896 : Ref sig .tc := ⟨.hbm, 986, rfl⟩
abbrev main_v897 : Ref sig .tc := ⟨.hbm, 987, rfl⟩
abbrev main_v898 : Ref sig .tc := ⟨.hbm, 988, rfl⟩
abbrev main_v899 : Ref sig .tc := ⟨.hbm, 989, rfl⟩
abbrev main_v900 : Ref sig .tc := ⟨.hbm, 990, rfl⟩
abbrev main_v901 : Ref sig .tc := ⟨.hbm, 991, rfl⟩
abbrev main_v902 : Ref sig .tc := ⟨.hbm, 992, rfl⟩
abbrev main_v903 : Ref sig .tc := ⟨.hbm, 993, rfl⟩
abbrev main_v904 : Ref sig .tc := ⟨.hbm, 994, rfl⟩
abbrev main_v905 : Ref sig .tc := ⟨.hbm, 995, rfl⟩
abbrev main_v906 : Ref sig .tc := ⟨.hbm, 996, rfl⟩
abbrev main_v907 : Ref sig .tc := ⟨.hbm, 997, rfl⟩
abbrev main_v908 : Ref sig .tc := ⟨.hbm, 998, rfl⟩
abbrev main_v909 : Ref sig .tc := ⟨.hbm, 999, rfl⟩
abbrev main_v910 : Ref sig .tc := ⟨.hbm, 1000, rfl⟩
abbrev main_v911 : Ref sig .tc := ⟨.hbm, 1001, rfl⟩
abbrev main_v912 : Ref sig .tc := ⟨.hbm, 1002, rfl⟩
abbrev main_v913 : Ref sig .tc := ⟨.hbm, 1003, rfl⟩
abbrev main_v914 : Ref sig .tc := ⟨.hbm, 1004, rfl⟩
abbrev main_v915 : Ref sig .tc := ⟨.hbm, 1005, rfl⟩
abbrev main_v916 : Ref sig .tc := ⟨.hbm, 1006, rfl⟩
abbrev main_v917 : Ref sig .tc := ⟨.hbm, 1007, rfl⟩
abbrev main_v918 : Ref sig .tc := ⟨.hbm, 1008, rfl⟩
abbrev main_v919 : Ref sig .tc := ⟨.hbm, 1009, rfl⟩
abbrev main_v920 : Ref sig .tc := ⟨.hbm, 1010, rfl⟩
abbrev main_v921 : Ref sig .tc := ⟨.hbm, 1011, rfl⟩
abbrev main_v922 : Ref sig .tc := ⟨.hbm, 1012, rfl⟩
abbrev main_call25_cst : Ref sig .tc := ⟨.hbm, 1013, rfl⟩
abbrev main_call25_v0 : Ref sig .tc := ⟨.hbm, 1014, rfl⟩
abbrev main_v923 : Ref sig .tc := ⟨.hbm, 1015, rfl⟩
abbrev main_v924 : Ref sig .tc := ⟨.hbm, 1016, rfl⟩
abbrev main_v925 : Ref sig .tc := ⟨.hbm, 1017, rfl⟩
abbrev main_v926 : Ref sig .tc := ⟨.hbm, 1018, rfl⟩
abbrev main_v927 : Ref sig .tc := ⟨.hbm, 1019, rfl⟩
abbrev main_c_47 : Ref sig .tc := ⟨.hbm, 1020, rfl⟩
abbrev main_call26_v0 : Ref sig .tc := ⟨.hbm, 1021, rfl⟩
abbrev main_v928 : Ref sig .tc := ⟨.hbm, 1022, rfl⟩
abbrev main_cst_48 : Ref sig .tc := ⟨.hbm, 1023, rfl⟩
abbrev main_v929 : Ref sig .tc := ⟨.hbm, 1024, rfl⟩
abbrev main_v930 : Ref sig .tc := ⟨.hbm, 1025, rfl⟩
abbrev main_v931 : Ref sig .tc := ⟨.hbm, 1026, rfl⟩
abbrev main_v932 : Ref sig .tc := ⟨.hbm, 1027, rfl⟩
abbrev main_v933 : Ref sig .tc := ⟨.hbm, 1028, rfl⟩
abbrev main_v934 : Ref sig .tc := ⟨.hbm, 1029, rfl⟩
abbrev main_v935 : Ref sig .tc := ⟨.hbm, 1030, rfl⟩
abbrev main_v936 : Ref sig .tc := ⟨.hbm, 1031, rfl⟩
abbrev main_v937 : Ref sig .tc := ⟨.hbm, 1032, rfl⟩
abbrev main_v938 : Ref sig .tc := ⟨.hbm, 1033, rfl⟩
abbrev main_v939 : Ref sig .tc := ⟨.hbm, 1034, rfl⟩
abbrev main_v940 : Ref sig .tc := ⟨.hbm, 1035, rfl⟩
abbrev main_v941 : Ref sig .tc := ⟨.hbm, 1036, rfl⟩
abbrev main_v942 : Ref sig .tc := ⟨.hbm, 1037, rfl⟩
abbrev main_v943 : Ref sig .tc := ⟨.hbm, 1038, rfl⟩
abbrev main_v944 : Ref sig .tc := ⟨.hbm, 1039, rfl⟩
abbrev main_v945 : Ref sig .tc := ⟨.hbm, 1040, rfl⟩
abbrev main_v946 : Ref sig .tc := ⟨.hbm, 1041, rfl⟩
abbrev main_v947 : Ref sig .tc := ⟨.hbm, 1042, rfl⟩
abbrev main_v948 : Ref sig .tc := ⟨.hbm, 1043, rfl⟩
abbrev main_v949 : Ref sig .tc := ⟨.hbm, 1044, rfl⟩
abbrev main_v950 : Ref sig .tc := ⟨.hbm, 1045, rfl⟩
abbrev main_v951 : Ref sig .tc := ⟨.hbm, 1046, rfl⟩
abbrev main_v952 : Ref sig .tc := ⟨.hbm, 1047, rfl⟩
abbrev main_v953 : Ref sig .tc := ⟨.hbm, 1048, rfl⟩
abbrev main_v954 : Ref sig .tc := ⟨.hbm, 1049, rfl⟩
abbrev main_v955 : Ref sig .tc := ⟨.hbm, 1050, rfl⟩
abbrev main_v956 : Ref sig .tc := ⟨.hbm, 1051, rfl⟩
abbrev main_v957 : Ref sig .tc := ⟨.hbm, 1052, rfl⟩
abbrev main_v958 : Ref sig .tc := ⟨.hbm, 1053, rfl⟩
abbrev main_v959 : Ref sig .tc := ⟨.hbm, 1054, rfl⟩
abbrev main_v960 : Ref sig .tc := ⟨.hbm, 1055, rfl⟩
abbrev main_v961 : Ref sig .tc := ⟨.hbm, 1056, rfl⟩
abbrev main_v962 : Ref sig .tc := ⟨.hbm, 1057, rfl⟩
abbrev main_v963 : Ref sig .tc := ⟨.hbm, 1058, rfl⟩
abbrev main_v964 : Ref sig .tc := ⟨.hbm, 1059, rfl⟩
abbrev main_v965 : Ref sig .tc := ⟨.hbm, 1060, rfl⟩
abbrev main_v966 : Ref sig .tc := ⟨.hbm, 1061, rfl⟩
abbrev main_v967 : Ref sig .tc := ⟨.hbm, 1062, rfl⟩
abbrev main_v968 : Ref sig .tc := ⟨.hbm, 1063, rfl⟩
abbrev main_v969 : Ref sig .tc := ⟨.hbm, 1064, rfl⟩
abbrev main_v970 : Ref sig .tc := ⟨.hbm, 1065, rfl⟩
abbrev main_v971 : Ref sig .tc := ⟨.hbm, 1066, rfl⟩
abbrev main_v972 : Ref sig .tc := ⟨.hbm, 1067, rfl⟩
abbrev main_v973 : Ref sig .tc := ⟨.hbm, 1068, rfl⟩
abbrev main_v974 : Ref sig .tc := ⟨.hbm, 1069, rfl⟩
abbrev main_v975 : Ref sig .tc := ⟨.hbm, 1070, rfl⟩
abbrev main_v976 : Ref sig .tc := ⟨.hbm, 1071, rfl⟩
abbrev main_v977 : Ref sig .tc := ⟨.hbm, 1072, rfl⟩
abbrev main_v978 : Ref sig .tc := ⟨.hbm, 1073, rfl⟩
abbrev main_v979 : Ref sig .tc := ⟨.hbm, 1074, rfl⟩
abbrev main_v980 : Ref sig .tc := ⟨.hbm, 1075, rfl⟩
abbrev main_v981 : Ref sig .tc := ⟨.hbm, 1076, rfl⟩
abbrev main_v982 : Ref sig .tc := ⟨.hbm, 1077, rfl⟩
abbrev main_v983 : Ref sig .tc := ⟨.hbm, 1078, rfl⟩
abbrev main_v984 : Ref sig .tc := ⟨.hbm, 1079, rfl⟩
abbrev main_v985 : Ref sig .tc := ⟨.hbm, 1080, rfl⟩
abbrev main_v986 : Ref sig .tc := ⟨.hbm, 1081, rfl⟩
abbrev main_call27_cst : Ref sig .tc := ⟨.hbm, 1082, rfl⟩
abbrev main_call27_v0 : Ref sig .tc := ⟨.hbm, 1083, rfl⟩
abbrev main_v987 : Ref sig .tc := ⟨.hbm, 1084, rfl⟩
abbrev main_v988 : Ref sig .tc := ⟨.hbm, 1085, rfl⟩
abbrev main_v989 : Ref sig .tc := ⟨.hbm, 1086, rfl⟩
abbrev main_v990 : Ref sig .tc := ⟨.hbm, 1087, rfl⟩
abbrev main_v991 : Ref sig .tc := ⟨.hbm, 1088, rfl⟩
abbrev main_c_49 : Ref sig .tc := ⟨.hbm, 1089, rfl⟩
abbrev main_call28_v0 : Ref sig .tc := ⟨.hbm, 1090, rfl⟩
abbrev main_v992 : Ref sig .tc := ⟨.hbm, 1091, rfl⟩
abbrev main_cst_50 : Ref sig .tc := ⟨.hbm, 1092, rfl⟩
abbrev main_v993 : Ref sig .tc := ⟨.hbm, 1093, rfl⟩
abbrev main_v994 : Ref sig .tc := ⟨.hbm, 1094, rfl⟩
abbrev main_v995 : Ref sig .tc := ⟨.hbm, 1095, rfl⟩
abbrev main_v996 : Ref sig .tc := ⟨.hbm, 1096, rfl⟩
abbrev main_v997 : Ref sig .tc := ⟨.hbm, 1097, rfl⟩
abbrev main_v998 : Ref sig .tc := ⟨.hbm, 1098, rfl⟩
abbrev main_v999 : Ref sig .tc := ⟨.hbm, 1099, rfl⟩
abbrev main_v1000 : Ref sig .tc := ⟨.hbm, 1100, rfl⟩
abbrev main_v1001 : Ref sig .tc := ⟨.hbm, 1101, rfl⟩
abbrev main_v1002 : Ref sig .tc := ⟨.hbm, 1102, rfl⟩
abbrev main_v1003 : Ref sig .tc := ⟨.hbm, 1103, rfl⟩
abbrev main_v1004 : Ref sig .tc := ⟨.hbm, 1104, rfl⟩
abbrev main_v1005 : Ref sig .tc := ⟨.hbm, 1105, rfl⟩
abbrev main_v1006 : Ref sig .tc := ⟨.hbm, 1106, rfl⟩
abbrev main_v1007 : Ref sig .tc := ⟨.hbm, 1107, rfl⟩
abbrev main_v1008 : Ref sig .tc := ⟨.hbm, 1108, rfl⟩
abbrev main_v1009 : Ref sig .tc := ⟨.hbm, 1109, rfl⟩
abbrev main_v1010 : Ref sig .tc := ⟨.hbm, 1110, rfl⟩
abbrev main_v1011 : Ref sig .tc := ⟨.hbm, 1111, rfl⟩
abbrev main_v1012 : Ref sig .tc := ⟨.hbm, 1112, rfl⟩
abbrev main_v1013 : Ref sig .tc := ⟨.hbm, 1113, rfl⟩
abbrev main_v1014 : Ref sig .tc := ⟨.hbm, 1114, rfl⟩
abbrev main_v1015 : Ref sig .tc := ⟨.hbm, 1115, rfl⟩
abbrev main_v1016 : Ref sig .tc := ⟨.hbm, 1116, rfl⟩
abbrev main_v1017 : Ref sig .tc := ⟨.hbm, 1117, rfl⟩
abbrev main_v1018 : Ref sig .tc := ⟨.hbm, 1118, rfl⟩
abbrev main_v1019 : Ref sig .tc := ⟨.hbm, 1119, rfl⟩
abbrev main_v1020 : Ref sig .tc := ⟨.hbm, 1120, rfl⟩
abbrev main_v1021 : Ref sig .tc := ⟨.hbm, 1121, rfl⟩
abbrev main_v1022 : Ref sig .tc := ⟨.hbm, 1122, rfl⟩
abbrev main_v1023 : Ref sig .tc := ⟨.hbm, 1123, rfl⟩
abbrev main_v1024 : Ref sig .tc := ⟨.hbm, 1124, rfl⟩
abbrev main_v1025 : Ref sig .tc := ⟨.hbm, 1125, rfl⟩
abbrev main_v1026 : Ref sig .tc := ⟨.hbm, 1126, rfl⟩
abbrev main_v1027 : Ref sig .tc := ⟨.hbm, 1127, rfl⟩
abbrev main_v1028 : Ref sig .tc := ⟨.hbm, 1128, rfl⟩
abbrev main_v1029 : Ref sig .tc := ⟨.hbm, 1129, rfl⟩
abbrev main_v1030 : Ref sig .tc := ⟨.hbm, 1130, rfl⟩
abbrev main_v1031 : Ref sig .tc := ⟨.hbm, 1131, rfl⟩
abbrev main_v1032 : Ref sig .tc := ⟨.hbm, 1132, rfl⟩
abbrev main_v1033 : Ref sig .tc := ⟨.hbm, 1133, rfl⟩
abbrev main_v1034 : Ref sig .tc := ⟨.hbm, 1134, rfl⟩
abbrev main_v1035 : Ref sig .tc := ⟨.hbm, 1135, rfl⟩
abbrev main_v1036 : Ref sig .tc := ⟨.hbm, 1136, rfl⟩
abbrev main_v1037 : Ref sig .tc := ⟨.hbm, 1137, rfl⟩
abbrev main_v1038 : Ref sig .tc := ⟨.hbm, 1138, rfl⟩
abbrev main_v1039 : Ref sig .tc := ⟨.hbm, 1139, rfl⟩
abbrev main_v1040 : Ref sig .tc := ⟨.hbm, 1140, rfl⟩
abbrev main_v1041 : Ref sig .tc := ⟨.hbm, 1141, rfl⟩
abbrev main_v1042 : Ref sig .tc := ⟨.hbm, 1142, rfl⟩
abbrev main_v1043 : Ref sig .tc := ⟨.hbm, 1143, rfl⟩
abbrev main_v1044 : Ref sig .tc := ⟨.hbm, 1144, rfl⟩
abbrev main_v1045 : Ref sig .tc := ⟨.hbm, 1145, rfl⟩
abbrev main_v1046 : Ref sig .tc := ⟨.hbm, 1146, rfl⟩
abbrev main_v1047 : Ref sig .tc := ⟨.hbm, 1147, rfl⟩
abbrev main_v1048 : Ref sig .tc := ⟨.hbm, 1148, rfl⟩
abbrev main_v1049 : Ref sig .tc := ⟨.hbm, 1149, rfl⟩
abbrev main_v1050 : Ref sig .tc := ⟨.hbm, 1150, rfl⟩
abbrev main_call29_cst : Ref sig .tc := ⟨.hbm, 1151, rfl⟩
abbrev main_call29_v0 : Ref sig .tc := ⟨.hbm, 1152, rfl⟩
abbrev main_v1051 : Ref sig .tc := ⟨.hbm, 1153, rfl⟩
abbrev main_cst_51 : Ref sig .tc := ⟨.hbm, 1154, rfl⟩
abbrev main_v1052 : Ref sig .tc := ⟨.hbm, 1155, rfl⟩
abbrev main_cst_52 : Ref sig .tc := ⟨.hbm, 1156, rfl⟩
abbrev main_v1053 : Ref sig .tc := ⟨.hbm, 1157, rfl⟩
abbrev main_v1054 : Ref sig .tc := ⟨.hbm, 1158, rfl⟩
abbrev main_v1055 : Ref sig .tc := ⟨.hbm, 1159, rfl⟩
abbrev main_v1056 : Ref sig .tc := ⟨.hbm, 1160, rfl⟩
abbrev main_v1057 : Ref sig .tc := ⟨.hbm, 1161, rfl⟩
abbrev main_v1058 : Ref sig .tc := ⟨.hbm, 1162, rfl⟩
abbrev main_v1059 : Ref sig .tc := ⟨.hbm, 1163, rfl⟩
abbrev main_v1060 : Ref sig .tc := ⟨.hbm, 1164, rfl⟩
abbrev main_v1061 : Ref sig .tc := ⟨.hbm, 1165, rfl⟩
abbrev main_v1062 : Ref sig .tc := ⟨.hbm, 1166, rfl⟩
abbrev main_v1063 : Ref sig .tc := ⟨.hbm, 1167, rfl⟩
abbrev main_cst_53 : Ref sig .tc := ⟨.hbm, 1168, rfl⟩
abbrev main_v1064 : Ref sig .tc := ⟨.hbm, 1169, rfl⟩
abbrev main_cst_54 : Ref sig .tc := ⟨.hbm, 1170, rfl⟩
abbrev main_v1065 : Ref sig .tc := ⟨.hbm, 1171, rfl⟩
abbrev main_v1066 : Ref sig .tc := ⟨.hbm, 1172, rfl⟩
abbrev main_v1067 : Ref sig .tc := ⟨.hbm, 1173, rfl⟩
abbrev main_v1068 : Ref sig .tc := ⟨.hbm, 1174, rfl⟩
abbrev main_v1069 : Ref sig .tc := ⟨.hbm, 1175, rfl⟩
abbrev main_v1070 : Ref sig .tc := ⟨.hbm, 1176, rfl⟩
abbrev main_cst_55 : Ref sig .tc := ⟨.hbm, 1177, rfl⟩
abbrev main_v1071 : Ref sig .tc := ⟨.hbm, 1178, rfl⟩
abbrev main_v1072 : Ref sig .tc := ⟨.hbm, 1179, rfl⟩
abbrev main_v1073 : Ref sig .tc := ⟨.hbm, 1180, rfl⟩
abbrev main_v1074 : Ref sig .tc := ⟨.hbm, 1181, rfl⟩
abbrev main_cst_56 : Ref sig .tc := ⟨.hbm, 1182, rfl⟩
abbrev main_v1075 : Ref sig .tc := ⟨.hbm, 1183, rfl⟩
abbrev main_v1076 : Ref sig .tc := ⟨.hbm, 1184, rfl⟩
abbrev main_cst_57 : Ref sig .tc := ⟨.hbm, 1185, rfl⟩
abbrev main_v1077 : Ref sig .tc := ⟨.hbm, 1186, rfl⟩
abbrev main_v1078 : Ref sig .tc := ⟨.hbm, 1187, rfl⟩
abbrev main_v1079 : Ref sig .tc := ⟨.hbm, 1188, rfl⟩
abbrev main_v1080 : Ref sig .tc := ⟨.hbm, 1189, rfl⟩
abbrev main_call30_v0 : Ref sig .tc := ⟨.hbm, 1190, rfl⟩
abbrev main_v1081 : Ref sig .tc := ⟨.hbm, 1191, rfl⟩
abbrev main_v1082 : Ref sig .tc := ⟨.hbm, 1192, rfl⟩
abbrev main_cst_58 : Ref sig .tc := ⟨.hbm, 1193, rfl⟩
abbrev main_v1083 : Ref sig .tc := ⟨.hbm, 1194, rfl⟩
abbrev main_cst_59 : Ref sig .tc := ⟨.hbm, 1195, rfl⟩
abbrev main_v1084 : Ref sig .tc := ⟨.hbm, 1196, rfl⟩
abbrev main_v1085 : Ref sig .tc := ⟨.hbm, 1197, rfl⟩
abbrev main_v1086 : Ref sig .tc := ⟨.hbm, 1198, rfl⟩
abbrev main_v1087 : Ref sig .tc := ⟨.hbm, 1199, rfl⟩
abbrev main_v1088 : Ref sig .tc := ⟨.hbm, 1200, rfl⟩
abbrev main_v1089 : Ref sig .tc := ⟨.hbm, 1201, rfl⟩
abbrev main_v1090 : Ref sig .tc := ⟨.hbm, 1202, rfl⟩
abbrev main_v1091 : Ref sig .tc := ⟨.hbm, 1203, rfl⟩
abbrev main_v1092 : Ref sig .tc := ⟨.hbm, 1204, rfl⟩
abbrev main_v1093 : Ref sig .tc := ⟨.hbm, 1205, rfl⟩
abbrev main_v1094 : Ref sig .tc := ⟨.hbm, 1206, rfl⟩
abbrev main_v1095 : Ref sig .tc := ⟨.hbm, 1207, rfl⟩
abbrev main_call31_v0 : Ref sig .tc := ⟨.hbm, 1208, rfl⟩
abbrev main_v1096 : Ref sig .tc := ⟨.hbm, 1209, rfl⟩

abbrev nD : Nat := 1
abbrev τ : Topo := Topo.v7x

variable {F : FTy → Type} [FloatOps F]
-- ==== Proof.Net.lean ====
/-
  The kernel's body as a function of the eight blocks it reads: the network of `v05` written with the body's own printed
  operations, one definition for each thing the body does more than once. A scratch buffer is a list of stores, the last first;
  what it holds is `View.canon` of the list.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Msd

open Cert.KernelIdeal Cert.KernelIdeal.Gen Idealize.ShloMosaic

variable {F : FTy → Type} [FloatOps F] [Named F]

/-- The stores made into one feature buffer. -/
abbrev Stores (F : FTy → Type) := List (View.Piece (Elt F) S57x128x128 .f32)

/-- What a feature buffer holds. -/
abbrev Scr (F : FTy → Type) := S57x128x128.Idx → Elt F .f32

/-- The zero borders of a buffer of even rows: the left and right columns, and the row below the image. -/
def borderE : Stores F :=
  [⟨Rect.unit ![56, 0, 0] S1x128x128.size inb_S57x128x128_S1x128x128_56_0_0, k0_pay10⟩,
   ⟨Rect.unit ![0, 120, 0] S57x8x128.size inb_S57x128x128_S57x8x128_0_120_0, k0_pay2⟩,
   ⟨Rect.unit ![0, 0, 0] S57x8x128.size inb_S57x128x128_S57x8x128_0_0_0, k0_pay1⟩]

/-- The zero borders of a buffer of odd rows: the left and right columns, and the row above the image. -/
def borderO : Stores F :=
  [⟨Rect.unit ![0, 0, 0] S1x128x128.size inb_S57x128x128_S1x128x128_0_0_0, k0_pay10⟩,
   ⟨Rect.unit ![0, 120, 0] S57x8x128.size inb_S57x128x128_S57x8x128_0_120_0, k0_pay2⟩,
   ⟨Rect.unit ![0, 0, 0] S57x8x128.size inb_S57x128x128_S57x8x128_0_0_0, k0_pay1⟩]

/-- Four tiles of fourteen rows, stored from row 0 on. -/
def tilesE (t : Fin 4 → FVec F S14x112x128 .f32) : Stores F :=
  [⟨Rect.unit ![42, 8, 0] S14x112x128.size inb_S57x128x128_S14x112x128_42_8_0, t 3⟩,
   ⟨Rect.unit ![28, 8, 0] S14x112x128.size inb_S57x128x128_S14x112x128_28_8_0, t 2⟩,
   ⟨Rect.unit ![14, 8, 0] S14x112x128.size inb_S57x128x128_S14x112x128_14_8_0, t 1⟩,
   ⟨Rect.unit ![0, 8, 0] S14x112x128.size inb_S57x128x128_S14x112x128_0_8_0, t 0⟩]

/-- Four tiles of fourteen rows, stored from row 1 on. -/
def tilesO (t : Fin 4 → FVec F S14x112x128 .f32) : Stores F :=
  [⟨Rect.unit ![43, 8, 0] S14x112x128.size inb_S57x128x128_S14x112x128_43_8_0, t 3⟩,
   ⟨Rect.unit ![29, 8, 0] S14x112x128.size inb_S57x128x128_S14x112x128_29_8_0, t 2⟩,
   ⟨Rect.unit ![15, 8, 0] S14x112x128.size inb_S57x128x128_S14x112x128_15_8_0, t 1⟩,
   ⟨Rect.unit ![1, 8, 0] S14x112x128.size inb_S57x128x128_S14x112x128_1_8_0, t 0⟩]

/-- The four tiles of image columns a block of them is loaded in. -/
def imTile (x : Vec F S1x56x128x27 .bf16) : Fin 4 → Vec F S1x14x112x27 .bf16 :=
  ![View.ld x (Rect.unit ![0, 0, 8, 0] S1x14x112x27.size inb_S1x56x128x27_S1x14x112x27_0_0_8_0),
    View.ld x (Rect.unit ![0, 14, 8, 0] S1x14x112x27.size inb_S1x56x128x27_S1x14x112x27_0_14_8_0),
    View.ld x (Rect.unit ![0, 28, 8, 0] S1x14x112x27.size inb_S1x56x128x27_S1x14x112x27_0_28_8_0),
    View.ld x (Rect.unit ![0, 42, 8, 0] S1x14x112x27.size inb_S1x56x128x27_S1x14x112x27_0_42_8_0)]

/-- The four overlapping tiles of fifteen rows a feature buffer is loaded in. -/
def scrTile (s : Scr F) : Fin 4 → Vec F S15x128x128 .f32 :=
  ![View.ld s (Rect.unit ![0, 0, 0] S15x128x128.size inb_S57x128x128_S15x128x128_0_0_0),
    View.ld s (Rect.unit ![14, 0, 0] S15x128x128.size inb_S57x128x128_S15x128x128_14_0_0),
    View.ld s (Rect.unit ![28, 0, 0] S15x128x128.size inb_S57x128x128_S15x128x128_28_0_0),
    View.ld s (Rect.unit ![42, 0, 0] S15x128x128.size inb_S57x128x128_S15x128x128_42_0_0)]

/-- The four layers' weights, biases, classifier weights and classifier biases. -/
def wbOf (x : Vec F S4x1536x256 .bf16) : Fin 4 → Vec F S1x1536x256 .bf16 :=
  ![View.ld x (Rect.unit ![0, 0, 0] S1x1536x256.size inb_S4x1536x256_S1x1536x256_0_0_0),
    View.ld x (Rect.unit ![1, 0, 0] S1x1536x256.size inb_S4x1536x256_S1x1536x256_1_0_0),
    View.ld x (Rect.unit ![2, 0, 0] S1x1536x256.size inb_S4x1536x256_S1x1536x256_2_0_0),
    View.ld x (Rect.unit ![3, 0, 0] S1x1536x256.size inb_S4x1536x256_S1x1536x256_3_0_0)]

@[inherit_doc wbOf]
def bbOf (x : Vec F S4x256 .f32) : Fin 4 → Vec F S1x256 .f32 :=
  ![View.ld x (Rect.unit ![0, 0] S1x256.size inb_S4x256_S1x256_0_0),
    View.ld x (Rect.unit ![1, 0] S1x256.size inb_S4x256_S1x256_1_0),
    View.ld x (Rect.unit ![2, 0] S1x256.size inb_S4x256_S1x256_2_0),
    View.ld x (Rect.unit ![3, 0] S1x256.size inb_S4x256_S1x256_3_0)]

@[inherit_doc wbOf]
def cwOf (x : Vec F S4x128x128 .f32) : Fin 4 → Vec F S1x128x128 .f32 :=
  ![View.ld x (Rect.unit ![0, 0, 0] S1x128x128.size inb_S4x128x128_S1x128x128_0_0_0),
    View.ld x (Rect.unit ![1, 0, 0] S1x128x128.size inb_S4x128x128_S1x128x128_1_0_0),
    View.ld x (Rect.unit ![2, 0, 0] S1x128x128.size inb_S4x128x128_S1x128x128_2_0_0),
    View.ld x (Rect.unit ![3, 0, 0] S1x128x128.size inb_S4x128x128_S1x128x128_3_0_0)]

@[inherit_doc wbOf]
def cbOf (x : Vec F S4x128 .f32) : Fin 4 → Vec F S1x128 .f32 :=
  ![View.ld x (Rect.unit ![0, 0] S1x128.size inb_S4x128_S1x128_0_0),
    View.ld x (Rect.unit ![1, 0] S1x128.size inb_S4x128_S1x128_1_0),
    View.ld x (Rect.unit ![2, 0] S1x128.size inb_S4x128_S1x128_2_0),
    View.ld x (Rect.unit ![3, 0] S1x128.size inb_S4x128_S1x128_3_0)]

/-- The first convolution's tiles, from the image columns, the weights and the bias. -/
def initTiles (x : Vec F S1x56x128x27 .bf16) (wi : Vec F S27x128 .bf16) (bi : Vec F S1x128 .f32) :
    Fin 4 → FVec F S14x112x128 .f32 := fun r =>
  k0_pay17 (imTile x r) (View.ld wi (Rect.unit ![0, 0] S27x128.size inb_S27x128_S27x128_0_0))
    (View.ld bi (Rect.unit ![0, 0] S1x128.size inb_S1x128_S1x128_0_0))

/-- One tile of one layer: the relu of the weighted shifted rows plus the bias, even rows in the first 128 lanes and odd rows in the last. -/
def acc (se so : Scr F) (w : Vec F S1x1536x256 .bf16) (b : Vec F S1x256 .f32) (r : Fin 4) : FVec F S1568x256 .f32 :=
  k0_pay45 (k0_pay44 (scrTile se r) (scrTile so r)) w b

/-- A layer's tiles of even rows. -/
def evenTiles (se so : Scr F) (w : Vec F S1x1536x256 .bf16) (b : Vec F S1x256 .f32) : Fin 4 → FVec F S14x112x128 .f32 := fun r =>
  k0_pay46 (k0_pay44 (scrTile se r) (scrTile so r)) w b

/-- A layer's tiles of odd rows. -/
def oddTiles (se so : Scr F) (w : Vec F S1x1536x256 .bf16) (b : Vec F S1x256 .f32) : Fin 4 → FVec F S14x112x128 .f32 := fun r =>
  k0_pay47 (k0_pay44 (scrTile se r) (scrTile so r)) w b

/-- A layer's channel sums, over its four tiles. -/
def psum (se so : Scr F) (w : Vec F S1x1536x256 .bf16) (b : Vec F S1x256 .f32) : FVec F S128 .f32 :=
  k0_pay43 (k0_pay43 (k0_pay43 (k0_pay43 k0_pay29 (acc se so w b 0)) (acc se so w b 1)) (acc se so w b 2)) (acc se so w b 3)

/-- The pooled channels through the classifier's weights. -/
def classify (p : FVec F S128 .f32) (cw : Vec F S1x128x128 .f32) : FVec F S128 .f32 :=
  shapeCast S128 (matmul dot_S1x128_S128x128_S1x128_1_0_0_1_n_n none
    (shapeCast S1x128 (mulf p (broadcast S128 (Named.named κ "mean" 0x38A72F05#32))) shapeCasts_S128_S1x128)
    (shapeCast S128x128 cw shapeCasts_S1x128x128_S128x128) (constant S1x128 .f32 0x00000000#32)) shapeCasts_S1x128_S128

/-- A sample's state after a layer: the logits kept so far, and whether the sample has left. -/
abbrev St (F : FTy → Type) [FloatOps F] := FVec F S128 .f32 × BitVec 1

/-- One early exit: the logits `lg` of confidence `cf` are taken by a sample that has not left and is confident. -/
def exit (lg : FVec F S128 .f32) (cf : F .f32) (s : St F) : St F :=
  let take := Scalar.andi (Scalar.xori s.2 1#1) (Scalar.cmpf .oge cf (FloatOps.ofBits .f32 0x3F666666#32))
  (Scalar.select take lg s.1, Scalar.ori s.2 take)

section Body

variable (x0 x1 : Vec F S1x56x128x27 .bf16) (x2 : Vec F S27x128 .bf16) (x3 : Vec F S1x128 .f32) (x4 : Vec F S4x1536x256 .bf16)
  (x5 : Vec F S4x256 .f32) (x6 : Vec F S4x128x128 .f32) (x7 : Vec F S4x128 .f32)

/-- The stores of the even and the odd buffer after the first convolution and after each layer. The layers use two pairs of buffers in turn. -/
def e0 : Stores F := tilesE (initTiles x0 x2 x3) ++ borderE
@[inherit_doc e0] def o0 : Stores F := tilesO (initTiles x1 x2 x3) ++ borderO
@[inherit_doc e0] def e1 : Stores F :=
  tilesE (evenTiles (View.canon (e0 x0 x2 x3)) (View.canon (o0 x1 x2 x3)) (wbOf x4 0) (bbOf x5 0)) ++ borderE
@[inherit_doc e0] def o1 : Stores F :=
  tilesO (oddTiles (View.canon (e0 x0 x2 x3)) (View.canon (o0 x1 x2 x3)) (wbOf x4 0) (bbOf x5 0)) ++ borderO
@[inherit_doc e0] def e2 : Stores F :=
  tilesE (evenTiles (View.canon (e1 x0 x1 x2 x3 x4 x5)) (View.canon (o1 x0 x1 x2 x3 x4 x5)) (wbOf x4 1) (bbOf x5 1)) ++ e0 x0 x2 x3
@[inherit_doc e0] def o2 : Stores F :=
  tilesO (oddTiles (View.canon (e1 x0 x1 x2 x3 x4 x5)) (View.canon (o1 x0 x1 x2 x3 x4 x5)) (wbOf x4 1) (bbOf x5 1)) ++ o0 x1 x2 x3
@[inherit_doc e0] def e3 : Stores F :=
  tilesE (evenTiles (View.canon (e2 x0 x1 x2 x3 x4 x5)) (View.canon (o2 x0 x1 x2 x3 x4 x5)) (wbOf x4 2) (bbOf x5 2)) ++ e1 x0 x1 x2 x3 x4 x5
@[inherit_doc e0] def o3 : Stores F :=
  tilesO (oddTiles (View.canon (e2 x0 x1 x2 x3 x4 x5)) (View.canon (o2 x0 x1 x2 x3 x4 x5)) (wbOf x4 2) (bbOf x5 2)) ++ o1 x0 x1 x2 x3 x4 x5

/-- The buffers each layer reads. -/
def se : Fin 4 → Scr F :=
  ![View.canon (e0 x0 x2 x3), View.canon (e1 x0 x1 x2 x3 x4 x5), View.canon (e2 x0 x1 x2 x3 x4 x5), View.canon (e3 x0 x1 x2 x3 x4 x5)]
@[inherit_doc se] def so : Fin 4 → Scr F :=
  ![View.canon (o0 x1 x2 x3), View.canon (o1 x0 x1 x2 x3 x4 x5), View.canon (o2 x0 x1 x2 x3 x4 x5), View.canon (o3 x0 x1 x2 x3 x4 x5)]

/-- Layer `d`'s pooled channels through the classifier. -/
def dots (d : Fin 4) : FVec F S128 .f32 :=
  classify (psum (se x0 x1 x2 x3 x4 x5 d) (so x0 x1 x2 x3 x4 x5 d) (wbOf x4 d) (bbOf x5 d)) (cwOf x6 d)

/-- Layer `d`'s logits. -/
def logits (d : Fin 4) : FVec F S128 .f32 := k0_pay83 (dots x0 x1 x2 x3 x4 x5 x6 d) (cbOf x7 d)

/-- Layer `d`'s confidence. -/
def conf (d : Fin 4) : F .f32 := k0_pay84 (dots x0 x1 x2 x3 x4 x5 x6 d) (cbOf x7 d)

/-- The state after the four exits. -/
def state : St F :=
  let ex := fun d => exit (logits x0 x1 x2 x3 x4 x5 x6 x7 d) (conf x0 x1 x2 x3 x4 x5 x6 x7 d)
  ex 3 (ex 2 (ex 1 (ex 0 (k0_pay28, 0#1))))

/-- What the body stores: the kept logits of a sample that left, else the last layer's. -/
def net : FVec F S1x1x128 .f32 :=
  shapeCast S1x1x128 (Scalar.select (state x0 x1 x2 x3 x4 x5 x6 x7).2 (state x0 x1 x2 x3 x4 x5 x6 x7).1
    (logits x0 x1 x2 x3 x4 x5 x6 x7 3)) shapeCasts_S128_S1x1x128

end Body

end Cert.Msd

end
-- ==== Proof.Math.lean ====
/-
  The network over the extended reals: images of 112 × 112 pixels, 3 × 3 convolutions with a zero border, pooled logits, the
  confidence of a vector of logits, and the early exits.
-/
module

public import Idealize.ShloMosaic.Lib.Pointwise

@[expose] public section

noncomputable section

namespace Cert.Msd

open Idealize.ShloMosaic

/-- An image of `n` channels. -/
abbrev Img (n : ℕ) := Fin 112 → Fin 112 → Fin n → EReal

/-- The image with a border of zeros: row 0 and column 0 are the border, and so is everything past row or column 112. -/
def padded {n : ℕ} (f : Img n) (r c : ℕ) (k : Fin n) : EReal :=
  if h : (1 ≤ r ∧ r ≤ 112) ∧ 1 ≤ c ∧ c ≤ 112 then f ⟨r - 1, by omega⟩ ⟨c - 1, by omega⟩ k else 0

/-- The 3 × 3 convolution, before the bias, at pixel (r, c). -/
def conv {n : ℕ} (f : Img n) (w : Fin 3 → Fin 3 → Fin n → Fin 128 → EReal) (r c : ℕ) (o : Fin 128) : EReal :=
  ∑ ky : Fin 3, ∑ kx : Fin 3, ∑ k, padded f (r + ky) (c + kx) k * w ky kx k o

/-- One layer: the convolution, the bias and the relu. -/
def layer {n : ℕ} (f : Img n) (w : Fin 3 → Fin 3 → Fin n → Fin 128 → EReal) (b : Fin 128 → EReal) : Img 128 :=
  fun r c o => max (conv f w r c o + b o) 0

/-- The first convolution: no relu. -/
def first {n : ℕ} (f : Img n) (w : Fin 3 → Fin 3 → Fin n → Fin 128 → EReal) (b : Fin 128 → EReal) : Img 128 :=
  fun r c o => conv f w r c o + b o

/-- The mean of a channel. -/
def mean (f : Img 128) (k : Fin 128) : EReal := (∑ r, ∑ c, f r c k) * ((12544⁻¹ : ℝ) : EReal)

/-- The logits of an image. -/
def logit (f : Img 128) (w : Fin 128 → Fin 100 → EReal) (b : Fin 100 → EReal) (j : Fin 100) : EReal :=
  ∑ k, mean f k * w k j + b j

/-- The largest of a hundred logits. -/
def top (l : Fin 100 → EReal) : EReal := Finset.univ.fold max ⊥ l

/-- The denominator of their softmax, shifted by the largest. -/
def total (l : Fin 100 → EReal) : EReal := ∑ j, Ideal.exp (l j - top l)

/-- The confidence, as the kernel computes it: the largest logit's own exponential is 1. -/
def sure (l : Fin 100 → EReal) : EReal := Ideal.div 1 (total l)

/-- The confidence by its definition: the largest entry of the softmax. -/
def confidence (l : Fin 100 → EReal) : EReal := Finset.univ.fold max ⊥ fun j => Ideal.div (Ideal.exp (l j - top l)) (total l)

/-- The threshold of an early exit: the binary32 number nearest 0.9. -/
def threshold : EReal := Ideal.ofBits .f32 0x3F666666#32

/-- Early exits: the logits of the first of layers 0, 1 and 2 that is confident, else those of layer 3. -/
def choose (s : Fin 4 → EReal) (l : Fin 4 → Fin 100 → EReal) : Fin 100 → EReal :=
  if threshold ≤ s 0 then l 0 else if threshold ≤ s 1 then l 1 else if threshold ≤ s 2 then l 2 else l 3

/-- The features after block `d`. -/
def feature (f : Img 128) (W : Fin 4 → Fin 3 → Fin 3 → Fin 128 → Fin 128 → EReal) (B : Fin 4 → Fin 128 → EReal) : Fin 4 → Img 128
  | 0 => layer f (W 0) (B 0)
  | 1 => layer (layer f (W 0) (B 0)) (W 1) (B 1)
  | 2 => layer (layer (layer f (W 0) (B 0)) (W 1) (B 1)) (W 2) (B 2)
  | 3 => layer (layer (layer (layer f (W 0) (B 0)) (W 1) (B 1)) (W 2) (B 2)) (W 3) (B 3)

theorem padded_in {n : ℕ} (f : Img n) (r c : ℕ) (hr : r < 112) (hc : c < 112) (k : Fin n) :
    padded f (r + 1) (c + 1) k = f ⟨r, hr⟩ ⟨c, hc⟩ k := by
  rw [padded, dif_pos (by omega)]; rfl

theorem padded_out {n : ℕ} (f : Img n) (r c : ℕ) (k : Fin n) (h : ¬((1 ≤ r ∧ r ≤ 112) ∧ 1 ≤ c ∧ c ≤ 112)) :
    padded f r c k = 0 := dif_neg h

/-- A sum over `N = m · n` terms, by `m` groups of `n`. -/
theorem sum_groups {M : Type} [AddCommMonoid M] {N : ℕ} (m n : ℕ) (h : m * n = N) (g : Fin N → M) :
    ∑ j, g j = ∑ a : Fin m, ∑ k : Fin n, g ⟨a * n + k, h ▸ Nat.lt_of_lt_of_le (by rw [Nat.succ_mul]; omega : a * n + k < (a + 1) * n)
      (Nat.mul_le_mul_right n a.isLt)⟩ := by
  subst h
  rw [← Equiv.sum_comp (finProdFinEquiv (m := m) (n := n)) g, Fintype.sum_prod_type]
  refine Finset.sum_congr rfl fun a _ => Finset.sum_congr rfl fun k _ => congrArg g (Fin.ext ?_)
  simp [finProdFinEquiv, Nat.mul_comm, Nat.add_comm]

/-- The rows of an image: fourteen pairs of rows in each of four tiles. -/
theorem sum_rows {M : Type} [AddCommMonoid M] (g : Fin 112 → M) :
    ∑ j, g j = ∑ r : Fin 4, ∑ p : Fin 14, (g ⟨2 * (r * 14 + p), by omega⟩ + g ⟨2 * (r * 14 + p) + 1, by omega⟩) := by
  rw [sum_groups 56 2 rfl g, sum_groups 4 14 rfl]
  refine Finset.sum_congr rfl fun r _ => Finset.sum_congr rfl fun p _ => ?_
  rw [Fin.sum_univ_two]
  congr 1 <;> exact congrArg g (Fin.ext (by simp; omega))

end Cert.Msd

end
-- ==== Proof.Tile.lean ====
/-
  One tile of one layer, read at an index.
-/
module

public import proofs.«01_k».proof.Proof.Net
public import proofs.«01_k».proof.Proof.Math
public import Idealize.ShloMosaic.Lib.Pointwise

@[expose] public section

set_option maxRecDepth 16384

noncomputable section

namespace Cert.Msd

open Cert.KernelIdeal Cert.KernelIdeal.Gen Idealize.ShloMosaic

/-- One group of 128 columns: a load's rows from `off` on, its columns from `col` on. -/
def tap (v : Vec Ideal S15x128x128 .f32) (off col : ℕ) (hc : S15x128x128.Slices ![0, col, 0] S15x112x128)
    (ho : S15x112x128.Slices ![off, 0, 0] S14x112x128) : FVec Ideal S1568x128 .bf16 :=
  truncf .bf16 (shapeCast S1568x128 (extractStridedSlice S14x112x128 ![off, 0, 0] (extractStridedSlice S15x112x128 ![0, col, 0] v hc) ho)
    shapeCasts_S14x112x128_S1568x128) bitsLt_bf16_f32

theorem tap_apply (v : Vec Ideal S15x128x128 .f32) (off col : ℕ) (hc ho) (ho' : off < 2) (hc' : col < 16) (p : Fin 14) (c : Fin 112) (k : Fin 128) :
    tap v off col hc ho (ix2 ⟨p * 112 + c, by omega⟩ k) = v (ix3 ⟨off + p, by omega⟩ ⟨col + c, by omega⟩ k) := by
  unfold tap
  pointwise

/-- The twelve groups. -/
def taps (be bo : Vec Ideal S15x128x128 .f32) : Fin 12 → FVec Ideal S1568x128 .bf16 := fun a =>
  tap (if (a : ℕ) / 3 % 2 = 0 then bo else be) (a / 6) (7 + a % 3)
    ⟨rfl, fun b => by fin_cases b <;> simp <;> omega⟩ ⟨rfl, fun b => by fin_cases b <;> simp <;> omega⟩

theorem xcat_eq (be bo : Vec Ideal S15x128x128 .f32) :
    k0_pay44 be bo = concatenate S1568x1536 1 (List.ofFn fun a : Fin 12 => ⟨S1568x128, taps be bo a⟩)
      concatenates_S1568x128_S1568x128_S1568x128_S1568x128_S1568x128_S1568x128_S1568x128_S1568x128_S1568x128_S1568x128_S1568x128_S1568x128_S1568x1536_d1 := rfl

/-- The twelve groups of 128 columns: the even and the odd rows' loads `be`, `bo`, shifted down by a row for the last six and right by the
tap's column. -/
theorem xcat_apply (be bo : Vec Ideal S15x128x128 .f32) (p : Fin 14) (c : Fin 112) (a : Fin 12) (k : Fin 128) :
    k0_pay44 be bo (ix2 ⟨p * 112 + c, by omega⟩ ⟨a * 128 + k, by omega⟩)
      = (if (a : ℕ) / 3 % 2 = 0 then bo else be) (ix3 ⟨a / 6 + p, by omega⟩ ⟨7 + a % 3 + c, by omega⟩ k) := by
  rw [xcat_eq]
  refine (concatenate_ofFn_apply (t := S1568x1536) 1 (taps be bo) _ rfl 128 rfl _ a (by simp [ix2]; omega) (ix2 ⟨p * 112 + c, by omega⟩ k)
    (by simp [ix2]; omega) (fun b hb => by fin_cases b <;> simp_all [ix2])).trans ?_
  exact tap_apply _ _ _ _ _ (by omega) (by omega) p c k

/-- A tile's accumulator after the relu. -/
theorem acc_apply (x : FVec Ideal S1568x1536 .bf16) (w : Vec Ideal S1x1536x256 .bf16) (b : Vec Ideal S1x256 .f32) (q : Fin 1568) (n : Fin 256) :
    k0_pay45 x w b (ix2 q n) = max (∑ j : Fin 1536, x (ix2 q j) * w (ix3 0 j n) + b (ix2 0 n)) 0 := by
  unfold k0_pay45
  pointwise

theorem even_apply (x : FVec Ideal S1568x1536 .bf16) (w : Vec Ideal S1x1536x256 .bf16) (b : Vec Ideal S1x256 .f32) (p : Fin 14) (c : Fin 112) (o : Fin 128) :
    k0_pay46 x w b (ix3 p c o) = k0_pay45 x w b (ix2 ⟨p * 112 + c, by omega⟩ ⟨o, by omega⟩) := by
  unfold k0_pay46
  generalize k0_pay45 x w b = y
  pointwise

theorem odd_apply (x : FVec Ideal S1568x1536 .bf16) (w : Vec Ideal S1x1536x256 .bf16) (b : Vec Ideal S1x256 .f32) (p : Fin 14) (c : Fin 112) (o : Fin 128) :
    k0_pay47 x w b (ix3 p c o) = k0_pay45 x w b (ix2 ⟨p * 112 + c, by omega⟩ ⟨128 + o, by omega⟩) := by
  unfold k0_pay47
  generalize k0_pay45 x w b = y
  pointwise

/-- A tile's channel sums, even and odd rows together, added to what came before. -/
theorem sums_apply (s : FVec Ideal S128 .f32) (y : FVec Ideal S1568x256 .f32) (o : Fin 128) :
    k0_pay43 s y (ix1 o) = s (ix1 o) + ∑ q : Fin 1568, y (ix2 q ⟨o, by omega⟩) + ∑ q : Fin 1568, y (ix2 q ⟨128 + o, by omega⟩) := by
  unfold k0_pay43
  pointwise

/-- The first convolution's tile. -/
theorem init_apply (x : Vec Ideal S1x14x112x27 .bf16) (w : Vec Ideal S27x128 .bf16) (b : Vec Ideal S1x128 .f32) (p : Fin 14) (c : Fin 112) (o : Fin 128) :
    k0_pay17 x w b (ix3 p c o) = ∑ j : Fin 27, x (ix4 0 p c j) * w (ix2 j o) + b (ix2 0 o) := by
  unfold_payloads
  pointwise

end Cert.Msd

end
-- ==== Proof.Buffer.lean ====
/-
  What a feature buffer holds, read at an index: tiles inside, the earlier stores outside, zeros on the border.
-/
module

public import proofs.«01_k».proof.Proof.Net
public import proofs.«01_k».proof.Proof.Math
public import Idealize.ShloMosaic.Lib.Pointwise

@[expose] public section

set_option maxRecDepth 16384

noncomputable section

namespace Cert.Msd

open Cert.KernelIdeal Cert.KernelIdeal.Gen Idealize.ShloMosaic

/-- A buffer after a store through a rectangle, read at an index: the store's value inside the rectangle, the earlier stores outside. -/
theorem canon_cons_apply (a b h w : ℕ) (inb) (v : (Rect.unit (s := S57x128x128) ![a, b, 0] ![h, w, 128] inb).shape.Idx → EReal) (L : Stores Ideal)
    (p : Fin 57) (c k : Fin 128) :
    View.canon ((⟨Rect.unit ![a, b, 0] ![h, w, 128] inb, v⟩ : View.Piece (Elt Ideal) S57x128x128 .f32) :: L) (ix3 p c k)
      = if i : (a ≤ p ∧ p < a + h) ∧ b ≤ c ∧ c < b + w then
          v (ix3 (n0 := h) (n1 := w) (n2 := 128) ⟨p - a, by omega⟩ ⟨c - b, by omega⟩ k)
        else View.canon L (ix3 p c k) := by
  split
  · rename_i i
    have e : (ix3 p c k : S57x128x128.Idx) = (Rect.unit (s := S57x128x128) ![a, b, 0] ![h, w, 128] inb).emb
        (ix3 (n0 := h) (n1 := w) (n2 := 128) ⟨p - a, by omega⟩ ⟨c - b, by omega⟩ k) := by
      funext x
      apply Fin.ext
      fin_cases x <;> simp [ix3] <;> omega
    conv_lhs => rw [e]
    exact View.canon_cons_emb _ v L _
  · rename_i i
    refine View.canon_cons_of_not_mem _ L fun hm => i ?_
    have hm := (Rect.mem_set_unit (inb := inb)).mp hm
    have h0 := hm 0
    have h1 := hm 1
    simp at h0 h1
    omega

/-- The border of the even rows' buffer is zero. -/
theorem borderE_zero (p : Fin 57) (c k : Fin 128) (h : (p : ℕ) = 56 ∨ (c : ℕ) < 8 ∨ 120 ≤ (c : ℕ)) :
    View.canon (borderE (F := Ideal)) (ix3 p c k) = 0 := by
  unfold borderE
  iterate 3 rw [canon_cons_apply]
  unfold_payloads
  pointwise
  split_ifs <;> first | rfl | omega

/-- The border of the odd rows' buffer is zero. -/
theorem borderO_zero (p : Fin 57) (c k : Fin 128) (h : (p : ℕ) = 0 ∨ (c : ℕ) < 8 ∨ 120 ≤ (c : ℕ)) :
    View.canon (borderO (F := Ideal)) (ix3 p c k) = 0 := by
  unfold borderO
  iterate 3 rw [canon_cons_apply]
  unfold_payloads
  pointwise
  split_ifs <;> first | rfl | omega

/-- Tiles that each hold `g` at their place, over earlier stores that hold `g` everywhere else. -/
theorem tilesE_canon (t : Fin 4 → FVec Ideal S14x112x128 .f32) (L : Stores Ideal) (g : Fin 57 → Fin 128 → Fin 128 → EReal)
    (ht : ∀ (r : Fin 4) (p : Fin 14) (c : Fin 112) (k : Fin 128), t r (ix3 p c k) = g ⟨r * 14 + p, by omega⟩ ⟨8 + c, by omega⟩ k)
    (hL : ∀ (p : Fin 57) (c k : Fin 128), (p : ℕ) = 56 ∨ (c : ℕ) < 8 ∨ 120 ≤ (c : ℕ) → View.canon L (ix3 p c k) = g p c k)
    (p : Fin 57) (c k : Fin 128) : View.canon (tilesE t ++ L) (ix3 p c k) = g p c k := by
  unfold tilesE
  simp only [List.cons_append, List.nil_append]
  iterate 4 rw [canon_cons_apply]
  split_ifs
  all_goals first
    | exact hL p c k (by omega)
    | (refine (ht _ _ _ _).trans ?_; congr 1 <;> ext <;> simp <;> omega)

@[inherit_doc tilesE_canon]
theorem tilesO_canon (t : Fin 4 → FVec Ideal S14x112x128 .f32) (L : Stores Ideal) (g : Fin 57 → Fin 128 → Fin 128 → EReal)
    (ht : ∀ (r : Fin 4) (p : Fin 14) (c : Fin 112) (k : Fin 128), t r (ix3 p c k) = g ⟨r * 14 + p + 1, by omega⟩ ⟨8 + c, by omega⟩ k)
    (hL : ∀ (p : Fin 57) (c k : Fin 128), (p : ℕ) = 0 ∨ (c : ℕ) < 8 ∨ 120 ≤ (c : ℕ) → View.canon L (ix3 p c k) = g p c k)
    (p : Fin 57) (c k : Fin 128) : View.canon (tilesO t ++ L) (ix3 p c k) = g p c k := by
  unfold tilesO
  simp only [List.cons_append, List.nil_append]
  iterate 4 rw [canon_cons_apply]
  split_ifs
  all_goals first
    | exact hL p c k (by omega)
    | (refine (ht _ _ _ _).trans ?_; congr 1 <;> ext <;> simp <;> omega)

end Cert.Msd

end
-- ==== Proof.Layer.lean ====
/-
  A layer, the first convolution and the channel sums, on buffers that hold an image with its border.
-/
module

public import proofs.«01_k».proof.Proof.Tile
public import proofs.«01_k».proof.Proof.Buffer

@[expose] public section

set_option maxRecDepth 16384

noncomputable section

namespace Cert.Msd

open Cert.KernelIdeal Cert.KernelIdeal.Gen Idealize.ShloMosaic

/-- The buffer holds the image's even rows: row `p` is row `2 p + 1` of the bordered image, column 7 its left border. -/
def Even (f : Img 128) (s : Scr Ideal) : Prop := ∀ p c k, s (ix3 p c k) = padded f (2 * p + 1) (c - 7) k

/-- The buffer holds the image's odd rows: row `p` is row `2 p` of the bordered image. -/
def Odd (f : Img 128) (s : Scr Ideal) : Prop := ∀ p c k, s (ix3 p c k) = padded f (2 * p) (c - 7) k

/-- A layer's weights as the kernel lays them out: four rows of taps for two output rows at once. The last row of taps does not reach the even
row, and the first does not reach the odd one. -/
structure Weights (w : Vec Ideal S1x1536x256 .bf16) (W : Fin 3 → Fin 3 → Fin 128 → Fin 128 → EReal) : Prop where
  even : ∀ (ky kx : Fin 3) (k o : Fin 128), w (ix3 0 ⟨(ky * 3 + kx) * 128 + k, by omega⟩ ⟨o, by omega⟩) = W ky kx k o
  even_zero : ∀ (kx : Fin 3) (k o : Fin 128), w (ix3 0 ⟨(9 + kx) * 128 + k, by omega⟩ ⟨o, by omega⟩) = 0
  odd : ∀ (ky kx : Fin 3) (k o : Fin 128), w (ix3 0 ⟨((ky + 1) * 3 + kx) * 128 + k, by omega⟩ ⟨128 + o, by omega⟩) = W ky kx k o
  odd_zero : ∀ (kx : Fin 3) (k o : Fin 128), w (ix3 0 ⟨kx * 128 + k, by omega⟩ ⟨128 + o, by omega⟩) = 0

/-- A layer's biases: once for each of the two rows. -/
structure Biases (b : Vec Ideal S1x256 .f32) (B : Fin 128 → EReal) : Prop where
  even : ∀ o : Fin 128, b (ix2 0 ⟨o, by omega⟩) = B o
  odd : ∀ o : Fin 128, b (ix2 0 ⟨128 + o, by omega⟩) = B o

theorem scrTile_apply (s : Scr Ideal) (r : Fin 4) (i : Fin 15) (c k : Fin 128) :
    scrTile s r (ix3 i c k) = s (ix3 ⟨r * 14 + i, by omega⟩ c k) := by
  fin_cases r <;> simp only [scrTile, Fin.isValue, Fin.zero_eta, Fin.mk_one, Fin.reduceFinMk, Matrix.cons_val] <;> pointwise

section Layer

variable {f : Img 128} {se so : Scr Ideal} {w : Vec Ideal S1x1536x256 .bf16} {b : Vec Ideal S1x256 .f32}
  {W : Fin 3 → Fin 3 → Fin 128 → Fin 128 → EReal} {B : Fin 128 → EReal}

/-- The shifted rows of one tile. -/
theorem rows_apply (he : Even f se) (ho : Odd f so) (r : Fin 4) (p : Fin 14) (c : Fin 112) (a : Fin 12) (k : Fin 128) :
    k0_pay44 (scrTile se r) (scrTile so r) (ix2 ⟨p * 112 + c, by omega⟩ ⟨a * 128 + k, by omega⟩)
      = padded f (2 * (r * 14 + p) + a / 3) (c + a % 3) k := by
  rw [xcat_apply]
  split
  · rw [scrTile_apply, ho]
    congr 1 <;> simp <;> omega
  · rw [scrTile_apply, he]
    congr 1 <;> simp <;> omega

/-- A tile's accumulator at an even row and at an odd row. -/
theorem evenRow (he : Even f se) (ho : Odd f so) (hw : Weights w W) (hb : Biases b B) (r : Fin 4) (p : Fin 14) (c : Fin 112) (o : Fin 128) :
    acc se so w b r (ix2 ⟨p * 112 + c, by omega⟩ ⟨o, by omega⟩) = layer f W B ⟨2 * (r * 14 + p), by omega⟩ c o := by
  rw [acc, acc_apply, hb.even, layer, conv, sum_groups 12 128 rfl, sum_groups 4 3 rfl, Fin.sum_univ_castSucc]
  refine congrArg (max · 0) (congrArg (· + B o) ?_)
  refine (congrArg₂ (· + ·) ?_ (Finset.sum_eq_zero fun kx _ => Finset.sum_eq_zero fun k _ => ?_)).trans (add_zero _)
  · refine Finset.sum_congr rfl fun ky _ => Finset.sum_congr rfl fun kx _ => Finset.sum_congr rfl fun k _ => ?_
    refine congrArg₂ (· * ·) ((rows_apply he ho r p c ⟨ky * 3 + kx, by omega⟩ k).trans ?_) (hw.even ky kx k o)
    congr 1 <;> simp <;> omega
  · exact (congrArg _ (hw.even_zero kx k o)).trans (mul_zero _)

@[inherit_doc evenRow]
theorem oddRow (he : Even f se) (ho : Odd f so) (hw : Weights w W) (hb : Biases b B) (r : Fin 4) (p : Fin 14) (c : Fin 112) (o : Fin 128) :
    acc se so w b r (ix2 ⟨p * 112 + c, by omega⟩ ⟨128 + o, by omega⟩) = layer f W B ⟨2 * (r * 14 + p) + 1, by omega⟩ c o := by
  rw [acc, acc_apply, hb.odd, layer, conv, sum_groups 12 128 rfl, sum_groups 4 3 rfl, Fin.sum_univ_succ]
  refine congrArg (max · 0) (congrArg (· + B o) ?_)
  refine (congrArg₂ (· + ·) (Finset.sum_eq_zero fun kx _ => Finset.sum_eq_zero fun k _ => ?_) ?_).trans (zero_add _)
  · refine (congrArg _ (Eq.trans ?_ (hw.odd_zero kx k o))).trans (mul_zero _)
    congr 2; ext; simp
  · refine Finset.sum_congr rfl fun ky _ => Finset.sum_congr rfl fun kx _ => Finset.sum_congr rfl fun k _ => ?_
    refine congrArg₂ (· * ·) ((rows_apply he ho r p c ⟨(ky + 1) * 3 + kx, by omega⟩ k).trans ?_) (hw.odd ky kx k o)
    congr 1 <;> simp <;> omega

/-- A layer's stores hold the next image, over stores whose border is zero. -/
theorem evenTiles_hold (he : Even f se) (ho : Odd f so) (hw : Weights w W) (hb : Biases b B) (L : Stores Ideal)
    (hL : ∀ (p : Fin 57) (c k : Fin 128), (p : ℕ) = 56 ∨ (c : ℕ) < 8 ∨ 120 ≤ (c : ℕ) → View.canon L (ix3 p c k) = 0) :
    Even (layer f W B) (View.canon (tilesE (evenTiles se so w b) ++ L)) := by
  refine tilesE_canon _ _ (fun p c k => padded (layer f W B) (2 * p + 1) (c - 7) k) (fun r p c k => ?_) fun p c k h => ?_
  · rw [evenTiles, even_apply]
    refine (evenRow he ho hw hb r p c k).trans ?_
    rw [show (8 + (c : ℕ) - 7) = c + 1 by omega, padded_in _ _ _ (by simp; omega) (by omega)]
  · rw [hL p c k h, padded_out _ _ _ _ (by omega)]

@[inherit_doc evenTiles_hold]
theorem oddTiles_hold (he : Even f se) (ho : Odd f so) (hw : Weights w W) (hb : Biases b B) (L : Stores Ideal)
    (hL : ∀ (p : Fin 57) (c k : Fin 128), (p : ℕ) = 0 ∨ (c : ℕ) < 8 ∨ 120 ≤ (c : ℕ) → View.canon L (ix3 p c k) = 0) :
    Odd (layer f W B) (View.canon (tilesO (oddTiles se so w b) ++ L)) := by
  refine tilesO_canon _ _ (fun p c k => padded (layer f W B) (2 * p) (c - 7) k) (fun r p c k => ?_) fun p c k h => ?_
  · rw [oddTiles, odd_apply]
    refine (oddRow he ho hw hb r p c k).trans ?_
    rw [show (8 + (c : ℕ) - 7) = c + 1 by omega]
    refine (padded_in (layer f W B) (2 * (r * 14 + p) + 1) _ (by omega) (by omega) k).symm
  · rw [hL p c k h, padded_out _ _ _ _ (by omega)]

/-- The channel sums of the next image. -/
theorem psum_apply (he : Even f se) (ho : Odd f so) (hw : Weights w W) (hb : Biases b B) (o : Fin 128) :
    psum se so w b (ix1 o) = ∑ r, ∑ c, layer f W B r c o := by
  have hq : ∀ (r : Fin 4) (s : FVec Ideal S128 .f32), k0_pay43 s (acc se so w b r) (ix1 o)
      = s (ix1 o) + ∑ p : Fin 14, ((∑ c, layer f W B ⟨2 * (r * 14 + p), by omega⟩ c o) + ∑ c, layer f W B ⟨2 * (r * 14 + p) + 1, by omega⟩ c o) := by
    intro r s
    rw [sums_apply, sum_groups 14 112 rfl, sum_groups (N := 1568) 14 112 rfl, add_assoc, ← Finset.sum_add_distrib]
    refine congrArg _ (Finset.sum_congr rfl fun p _ => congrArg₂ (· + ·) ?_ ?_)
    · exact Finset.sum_congr rfl fun c _ => evenRow he ho hw hb r p c o
    · exact Finset.sum_congr rfl fun c _ => oddRow he ho hw hb r p c o
  rw [sum_rows, psum, hq, hq, hq, hq, Fin.sum_univ_four, show (k0_pay29 : FVec Ideal S128 .f32) (ix1 o) = 0 by unfold_payloads; pointwise, zero_add]

end Layer

/-- The image columns of one parity of rows: at row `p` and column `8 + c`, the 27 values that the tap reads at row `2 p + q`. -/
def Columns (X : Img 3) (q : ℕ) (x : Vec Ideal S1x56x128x27 .bf16) : Prop :=
  ∀ (p : Fin 56) (c : Fin 112) (ky kx ci : Fin 3), x (ix4 0 p ⟨8 + c, by omega⟩ ⟨(ky * 3 + kx) * 3 + ci, by omega⟩) = padded X (2 * p + q + ky) (c + kx) ci

section First

variable {X : Img 3} {x : Vec Ideal S1x56x128x27 .bf16} {w : Vec Ideal S27x128 .bf16} {b : Vec Ideal S1x128 .f32}
  {W : Fin 3 → Fin 3 → Fin 3 → Fin 128 → EReal} {B : Fin 128 → EReal}

theorem imTile_apply (x : Vec Ideal S1x56x128x27 .bf16) (r : Fin 4) (p : Fin 14) (c : Fin 112) (j : Fin 27) :
    imTile x r (ix4 0 p c j) = x (ix4 0 ⟨r * 14 + p, by omega⟩ ⟨8 + c, by omega⟩ j) := by
  fin_cases r <;> simp only [imTile, Fin.isValue, Fin.zero_eta, Fin.mk_one, Fin.reduceFinMk, Matrix.cons_val] <;> pointwise

/-- The first convolution's tile. -/
theorem initTiles_apply {q : ℕ} (hq : q < 2) (hx : Columns X q x) (hw : ∀ (ky kx ci : Fin 3) o, w (ix2 ⟨(ky * 3 + kx) * 3 + ci, by omega⟩ o) = W ky kx ci o)
    (hb : ∀ o, b (ix2 0 o) = B o) (r : Fin 4) (p : Fin 14) (c : Fin 112) (o : Fin 128) :
    initTiles x w b r (ix3 p c o) = first X W B ⟨2 * (r * 14 + p) + q, by omega⟩ c o := by
  rw [initTiles, init_apply, first, conv, sum_groups 9 3 rfl, sum_groups 3 3 rfl]
  refine congrArg₂ (· + ·) (Finset.sum_congr rfl fun ky _ => Finset.sum_congr rfl fun kx _ => Finset.sum_congr rfl fun ci _ =>
    congrArg₂ (· * ·) ?_ ?_) ?_
  · rw [imTile_apply]; exact hx _ _ _ _ _
  · refine Eq.trans ?_ (hw ky kx ci o); pointwise
  · refine Eq.trans ?_ (hb o); pointwise

theorem first_even (hx : Columns X 0 x) (hw : ∀ (ky kx ci : Fin 3) o, w (ix2 ⟨(ky * 3 + kx) * 3 + ci, by omega⟩ o) = W ky kx ci o)
    (hb : ∀ o, b (ix2 0 o) = B o) : Even (first X W B) (View.canon (e0 x w b)) := by
  refine tilesE_canon _ _ (fun p c k => padded (first X W B) (2 * p + 1) (c - 7) k) (fun r p c k => ?_) fun p c k h => ?_
  · refine (initTiles_apply (by omega) hx hw hb r p c k).trans ?_
    rw [show (8 + (c : ℕ) - 7) = c + 1 by omega, padded_in _ _ _ (by simp; omega) (by omega)]; rfl
  · rw [borderE_zero p c k h, padded_out _ _ _ _ (by omega)]

theorem first_odd (hx : Columns X 1 x) (hw : ∀ (ky kx ci : Fin 3) o, w (ix2 ⟨(ky * 3 + kx) * 3 + ci, by omega⟩ o) = W ky kx ci o)
    (hb : ∀ o, b (ix2 0 o) = B o) : Odd (first X W B) (View.canon (o0 x w b)) := by
  refine tilesO_canon _ _ (fun p c k => padded (first X W B) (2 * p) (c - 7) k) (fun r p c k => ?_) fun p c k h => ?_
  · refine (initTiles_apply (by omega) hx hw hb r p c k).trans ?_
    rw [show (8 + (c : ℕ) - 7) = c + 1 by omega]
    exact (padded_in (first X W B) (2 * (r * 14 + p) + 1) _ (by omega) (by omega) k).symm
  · rw [borderO_zero p c k h, padded_out _ _ _ _ (by omega)]

end First

end Cert.Msd

end
-- ==== Proof.Exit.lean ====
/-
  The pooled channels, the logits and the confidence of one image, read at an index.
-/
module

public import proofs.«01_k».proof.Proof.Net
public import proofs.«01_k».proof.Proof.Math
public import Idealize.ShloMosaic.Lib.Pointwise

@[expose] public section

set_option maxRecDepth 16384

noncomputable section

namespace Cert.Msd

open Cert.KernelIdeal Cert.KernelIdeal.Gen Idealize.ShloMosaic

/-- The class weights and biases of one layer: a hundred classes in 128 lanes. The lanes past them weigh 0 and are biased by −∞. -/
structure Classes (cw : Vec Ideal S1x128x128 .f32) (cb : Vec Ideal S1x128 .f32) (w : Fin 128 → Fin 100 → EReal) (b : Fin 100 → EReal) :
    Prop where
  weight : ∀ k (j : Fin 100), cw (ix3 0 k ⟨j, by omega⟩) = w k j
  bias : ∀ j : Fin 100, cb (ix2 0 ⟨j, by omega⟩) = b j
  weight_out : ∀ k (j : Fin 128), 100 ≤ j.val → cw (ix3 0 k j) = 0
  bias_out : ∀ j : Fin 128, 100 ≤ j.val → cb (ix2 0 j) = ⊥

theorem classify_apply (p : FVec Ideal S128 .f32) (cw : Vec Ideal S1x128x128 .f32) (j : Fin 128) :
    classify p cw (ix1 j) = ∑ k : Fin 128, p (ix1 k) * ((12544⁻¹ : ℝ) : EReal) * cw (ix3 0 k j) := by
  unfold classify
  pointwise
  rfl

theorem lanes_apply (d : FVec Ideal S128 .f32) (cb : Vec Ideal S1x128 .f32) (j : Fin 128) :
    k0_pay83 d cb (ix1 j) = d (ix1 j) + cb (ix2 0 j) := by
  unfold_payloads
  pointwise

theorem bits_bot : Ideal.ofBits .f32 0xFF800000#32 = ⊥ := by simp [Ideal.ofBits, Ideal.ieee]

theorem conf_lanes (d : FVec Ideal S128 .f32) (cb : Vec Ideal S1x128 .f32) :
    k0_pay84 d cb = Ideal.div 1 (∑ j : Fin 128, Ideal.exp
      (k0_pay83 d cb (ix1 j) - Finset.univ.fold max ⊥ fun j : Fin 128 => k0_pay83 d cb (ix1 j))) := by
  unfold k0_pay84
  generalize k0_pay83 d cb = l
  pointwise
  rw [bits_bot]

/-- A sum over the 128 lanes whose last 28 terms are 0. -/
theorem sum_lanes (g : Fin 128 → EReal) (h : ∀ j : Fin 128, 100 ≤ j.val → g j = 0) :
    ∑ j, g j = ∑ j : Fin 100, g ⟨j, by omega⟩ := by
  refine (Fin.sum_univ_add (a := 100) (b := 28) g).trans ?_
  refine (congrArg₂ (· + ·) rfl (Finset.sum_eq_zero fun j _ => h _ ?_)).trans (add_zero _)
  simp

/-- The largest of the 128 lanes, when the last 28 are −∞. -/
theorem max_lanes (g : Fin 128 → EReal) (h : ∀ j : Fin 128, 100 ≤ j.val → g j = ⊥) :
    Finset.univ.fold max ⊥ g = Finset.univ.fold max ⊥ fun j : Fin 100 => g ⟨j, by omega⟩ := by
  refine le_antisymm ((Finset.fold_max_le _).2 ⟨bot_le, fun j _ => ?_⟩) ((Finset.fold_max_le _).2 ⟨bot_le, fun j _ => ?_⟩)
  · by_cases hj : 100 ≤ j.val
    · rw [h j hj]; exact bot_le
    · exact (Finset.le_fold_max _).2 (.inr ⟨⟨j, by omega⟩, Finset.mem_univ _, le_rfl⟩)
  · exact (Finset.le_fold_max _).2 (.inr ⟨_, Finset.mem_univ _, le_rfl⟩)

section
variable {f : Img 128} {p : FVec Ideal S128 .f32} {cw : Vec Ideal S1x128x128 .f32} {cb : Vec Ideal S1x128 .f32}
  {w : Fin 128 → Fin 100 → EReal} {b : Fin 100 → EReal}

theorem lane_in (hp : ∀ k, p (ix1 k) = ∑ r, ∑ c, f r c k) (h : Classes cw cb w b) (j : Fin 100) :
    k0_pay83 (classify p cw) cb (ix1 ⟨j, by omega⟩) = logit f w b j := by
  rw [lanes_apply, classify_apply, h.bias, logit]
  simp only [hp, h.weight, mean]

theorem lane_out (h : Classes cw cb w b) (j : Fin 128) (hj : 100 ≤ j.val) :
    k0_pay83 (classify p cw) cb (ix1 j) = ⊥ := by
  rw [lanes_apply, h.bias_out j hj]
  exact EReal.add_bot _

/-- The confidence over the 128 lanes is that of the hundred logits. -/
theorem conf_apply (hp : ∀ k, p (ix1 k) = ∑ r, ∑ c, f r c k) (h : Classes cw cb w b) :
    k0_pay84 (classify p cw) cb = sure (logit f w b) := by
  rw [conf_lanes, max_lanes _ (lane_out h), sum_lanes _ fun j hj => ?_]
  · simp only [lane_in hp h]; rfl
  · rw [lane_out h j hj, sub_eq_add_neg, EReal.bot_add]; rfl

end

end Cert.Msd

end
-- ==== Proof.Network.lean ====
/-
  The body's result, from what its blocks hold: the logits of the first confident layer.
-/
module

public import proofs.«01_k».proof.Proof.Layer
public import proofs.«01_k».proof.Proof.Exit

@[expose] public section

set_option maxRecDepth 16384

noncomputable section

namespace Cert.Msd

open Cert.KernelIdeal Cert.KernelIdeal.Gen Idealize.ShloMosaic

theorem even_border {f : Img 128} {s : Scr Ideal} (h : Even f s) (p : Fin 57) (c k : Fin 128)
    (hp : (p : ℕ) = 56 ∨ (c : ℕ) < 8 ∨ 120 ≤ (c : ℕ)) : s (ix3 p c k) = 0 := by
  rw [h, padded_out _ _ _ _ (by omega)]

theorem odd_border {f : Img 128} {s : Scr Ideal} (h : Odd f s) (p : Fin 57) (c k : Fin 128)
    (hp : (p : ℕ) = 0 ∨ (c : ℕ) < 8 ∨ 120 ≤ (c : ℕ)) : s (ix3 p c k) = 0 := by
  rw [h, padded_out _ _ _ _ (by omega)]

/-- What the eight blocks of one image hold. -/
structure Blocks (x0 x1 : Vec Ideal S1x56x128x27 .bf16) (x2 : Vec Ideal S27x128 .bf16) (x3 : Vec Ideal S1x128 .f32)
    (x4 : Vec Ideal S4x1536x256 .bf16) (x5 : Vec Ideal S4x256 .f32) (x6 : Vec Ideal S4x128x128 .f32) (x7 : Vec Ideal S4x128 .f32)
    (X : Img 3) (Wi : Fin 3 → Fin 3 → Fin 3 → Fin 128 → EReal) (Bi : Fin 128 → EReal)
    (W : Fin 4 → Fin 3 → Fin 3 → Fin 128 → Fin 128 → EReal) (B : Fin 4 → Fin 128 → EReal)
    (Wc : Fin 4 → Fin 128 → Fin 100 → EReal) (Bc : Fin 4 → Fin 100 → EReal) : Prop where
  even : Columns X 0 x0
  odd : Columns X 1 x1
  firstWeight : ∀ (ky kx ci : Fin 3) o, x2 (ix2 ⟨(ky * 3 + kx) * 3 + ci, by omega⟩ o) = Wi ky kx ci o
  firstBias : ∀ o, x3 (ix2 0 o) = Bi o
  weights : ∀ d, Weights (wbOf x4 d) (W d)
  biases : ∀ d, Biases (bbOf x5 d) (B d)
  classes : ∀ d, Classes (cwOf x6 d) (cbOf x7 d) (Wc d) (Bc d)

section

variable {x0 x1 : Vec Ideal S1x56x128x27 .bf16} {x2 : Vec Ideal S27x128 .bf16} {x3 : Vec Ideal S1x128 .f32}
  {x4 : Vec Ideal S4x1536x256 .bf16} {x5 : Vec Ideal S4x256 .f32} {x6 : Vec Ideal S4x128x128 .f32} {x7 : Vec Ideal S4x128 .f32}
  {X : Img 3} {Wi : Fin 3 → Fin 3 → Fin 3 → Fin 128 → EReal} {Bi : Fin 128 → EReal}
  {W : Fin 4 → Fin 3 → Fin 3 → Fin 128 → Fin 128 → EReal} {B : Fin 4 → Fin 128 → EReal}
  {Wc : Fin 4 → Fin 128 → Fin 100 → EReal} {Bc : Fin 4 → Fin 100 → EReal}

/-- The buffers each layer reads hold one image, and the layer computes the next. -/
theorem buffers (h : Blocks x0 x1 x2 x3 x4 x5 x6 x7 X Wi Bi W B Wc Bc) (d : Fin 4) :
    ∃ g, Even g (se x0 x1 x2 x3 x4 x5 d) ∧ Odd g (so x0 x1 x2 x3 x4 x5 d) ∧ feature (first X Wi Bi) W B d = layer g (W d) (B d) := by
  have E0 := first_even h.even h.firstWeight h.firstBias
  have O0 := first_odd h.odd h.firstWeight h.firstBias
  have E1 : Even (feature (first X Wi Bi) W B 0) (View.canon (e1 x0 x1 x2 x3 x4 x5)) := by
    unfold e1; exact evenTiles_hold E0 O0 (h.weights 0) (h.biases 0) borderE borderE_zero
  have O1 : Odd (feature (first X Wi Bi) W B 0) (View.canon (o1 x0 x1 x2 x3 x4 x5)) := by
    unfold o1; exact oddTiles_hold E0 O0 (h.weights 0) (h.biases 0) borderO borderO_zero
  have E2 : Even (feature (first X Wi Bi) W B 1) (View.canon (e2 x0 x1 x2 x3 x4 x5)) := by
    unfold e2; exact evenTiles_hold E1 O1 (h.weights 1) (h.biases 1) (e0 x0 x2 x3) (even_border E0)
  have O2 : Odd (feature (first X Wi Bi) W B 1) (View.canon (o2 x0 x1 x2 x3 x4 x5)) := by
    unfold o2; exact oddTiles_hold E1 O1 (h.weights 1) (h.biases 1) (o0 x1 x2 x3) (odd_border O0)
  have E3 : Even (feature (first X Wi Bi) W B 2) (View.canon (e3 x0 x1 x2 x3 x4 x5)) := by
    unfold e3; exact evenTiles_hold E2 O2 (h.weights 2) (h.biases 2) (e1 x0 x1 x2 x3 x4 x5) (even_border E1)
  have O3 : Odd (feature (first X Wi Bi) W B 2) (View.canon (o3 x0 x1 x2 x3 x4 x5)) := by
    unfold o3; exact oddTiles_hold E2 O2 (h.weights 2) (h.biases 2) (o1 x0 x1 x2 x3 x4 x5) (odd_border O1)
  fin_cases d <;> simp only [se, so, Fin.isValue, Fin.zero_eta, Fin.mk_one, Fin.reduceFinMk, Matrix.cons_val]
  · exact ⟨first X Wi Bi, E0, O0, rfl⟩
  · exact ⟨_, E1, O1, rfl⟩
  · exact ⟨_, E2, O2, rfl⟩
  · exact ⟨_, E3, O3, rfl⟩

theorem sums (h : Blocks x0 x1 x2 x3 x4 x5 x6 x7 X Wi Bi W B Wc Bc) (d : Fin 4) (k : Fin 128) :
    psum (se x0 x1 x2 x3 x4 x5 d) (so x0 x1 x2 x3 x4 x5 d) (wbOf x4 d) (bbOf x5 d) (ix1 k)
      = ∑ r, ∑ c, feature (first X Wi Bi) W B d r c k := by
  obtain ⟨g, he, ho, hg⟩ := buffers h d
  rw [psum_apply he ho (h.weights d) (h.biases d), hg]

theorem logits_apply (h : Blocks x0 x1 x2 x3 x4 x5 x6 x7 X Wi Bi W B Wc Bc) (d : Fin 4) (j : Fin 100) :
    logits x0 x1 x2 x3 x4 x5 x6 x7 d (ix1 ⟨j, by omega⟩) = logit (feature (first X Wi Bi) W B d) (Wc d) (Bc d) j :=
  lane_in (sums h d) (h.classes d) j

theorem layer_conf (h : Blocks x0 x1 x2 x3 x4 x5 x6 x7 X Wi Bi W B Wc Bc) (d : Fin 4) :
    conf x0 x1 x2 x3 x4 x5 x6 x7 d = sure (logit (feature (first X Wi Bi) W B d) (Wc d) (Bc d)) :=
  conf_apply (sums h d) (h.classes d)

/-- Four exits in turn, then the last layer's logits for a sample that took none. -/
theorem exits (l : Fin 4 → FVec Ideal S128 .f32) (s : Fin 4 → EReal) (j : Fin 128) (z : FVec Ideal S128 .f32) :
    (let t : St Ideal := exit (l 3) (s 3) (exit (l 2) (s 2) (exit (l 1) (s 1) (exit (l 0) (s 0) (z, 0#1))))
     (Scalar.select t.2 t.1 (l 3) : FVec Ideal S128 .f32) (ix1 j))
      = if threshold ≤ s 0 then l 0 (ix1 j) else if threshold ≤ s 1 then l 1 (ix1 j) else if threshold ≤ s 2 then l 2 (ix1 j)
        else l 3 (ix1 j) := by
  have hc : ∀ d, (Scalar.cmpf .oge (s d) (FloatOps.ofBits (F := Ideal) .f32 0x3F666666#32)) = if threshold ≤ s d then 1#1 else 0#1 := by
    intro d
    pointwise
    unfold threshold
    split_ifs with h <;> simp [h]
  simp only [exit, hc]
  split_ifs <;> rfl

/-- The body's result at a class. -/
theorem net_apply (h : Blocks x0 x1 x2 x3 x4 x5 x6 x7 X Wi Bi W B Wc Bc) (j : Fin 100) :
    net x0 x1 x2 x3 x4 x5 x6 x7 (ix3 0 0 ⟨j, by omega⟩)
      = choose (fun d => sure (logit (feature (first X Wi Bi) W B d) (Wc d) (Bc d)))
          (fun d => logit (feature (first X Wi Bi) W B d) (Wc d) (Bc d)) j := by
  have hs : net x0 x1 x2 x3 x4 x5 x6 x7 (ix3 0 0 ⟨j, by omega⟩)
      = Scalar.select (state x0 x1 x2 x3 x4 x5 x6 x7).2 (state x0 x1 x2 x3 x4 x5 x6 x7).1 (logits x0 x1 x2 x3 x4 x5 x6 x7 3)
          (ix1 ⟨j, by omega⟩) := by
    unfold net
    pointwise
  rw [hs]
  refine (exits (logits x0 x1 x2 x3 x4 x5 x6 x7) (conf x0 x1 x2 x3 x4 x5 x6 x7) _ k0_pay28).trans ?_
  simp only [logits_apply h, layer_conf h, choose]
  split_ifs <;> rfl

end

end Cert.Msd

end
-- ==== Proof.Body.lean ====
/-
  The body's run leaves `Net`'s function of its blocks: each name that the run gave to a store list or to a stored value, unfolded, is
  the printed term that `Net` spells once.
-/
module

public import proofs.«01_k».proof.Proof.Net
import all proofs.«01_k».proof.Proof.Gen.KernelIdeal.Frame.RunA

@[expose] public section

set_option maxRecDepth 16384

noncomputable section

namespace Cert.Msd

open Cert.KernelIdeal Cert.KernelIdeal.Gen Idealize.ShloMosaic
open Cert.KernelIdeal.Gen.kernelRun0_A

variable {F : FTy → Type} [FloatOps F] [Named F]

section Words

variable (c : Dev nD) (arg1 : Memref sig .tc .vmem S1x56x128x27 .bf16) (harg1 : arg1.IsWhole) (arg2 : Memref sig .tc .vmem S1x56x128x27 .bf16) (harg2 : arg2.IsWhole)
  (arg3 : Memref sig .tc .vmem S27x128 .bf16) (harg3 : arg3.IsWhole) (arg4 : Memref sig .tc .vmem S1x128 .f32) (harg4 : arg4.IsWhole)
  (arg5 : Memref sig .tc .vmem S4x1536x256 .bf16) (harg5 : arg5.IsWhole) (arg6 : Memref sig .tc .vmem S4x256 .f32) (harg6 : arg6.IsWhole)
  (arg7 : Memref sig .tc .vmem S4x128x128 .f32) (harg7 : arg7.IsWhole) (arg8 : Memref sig .tc .vmem S4x128 .f32) (harg8 : arg8.IsWhole)
  (arg10 arg11 arg12 arg13 : Memref sig .tc .vmem S57x128x128 .f32)
  (x0 x1 : Vec F S1x56x128x27 .bf16) (x2 : Vec F S27x128 .bf16) (x3 : Vec F S1x128 .f32) (x4 : Vec F S4x1536x256 .bf16)
  (x5 : Vec F S4x256 .f32) (x6 : Vec F S4x128x128 .f32) (x7 : Vec F S4x128 .f32)

/-- The stores after the first convolution. -/
theorem HS0_7_eq : sl.HS0_7 c arg1 harg1 arg3 harg3 arg4 harg4 x0 x2 x3 = e0 x0 x2 x3 := by
  simp only [sl.HS0_7, sl.r, sl.r_1, sl.r_2, sl.r_3, sl.r_4, sl.r_5, View.readAt_eq_ld, Memref.IsWhole.read_unread]
  rfl

theorem HS1_7_eq : sl.HS1_7 c arg2 harg2 arg3 harg3 arg4 harg4 x1 x2 x3 = o0 x1 x2 x3 := by
  simp only [sl.HS1_7, View.readAt_eq_ld, Memref.IsWhole.read_unread]
  rfl

/-- The stores after the first layer. -/
theorem HS2_7_eq : sl.HS2_7 c arg1 harg1 arg2 harg2 arg3 harg3 arg4 harg4 arg5 harg5 arg6 harg6 arg10 arg11 x0 x1 x2 x3 x4 x5 = e1 x0 x1 x2 x3 x4 x5 := by
  simp only [sl.HS2_7, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.v170, sl.v171, sl.v240, sl.v241, sl.v310, sl.v311, sl.v380, sl.v381,
    HS0_7_eq, HS1_7_eq, View.readCov_eq_canon', View.readAt_eq_ld, Memref.IsWhole.read_unread]
  simp only [e1, tilesE, evenTiles, borderE, scrTile, wbOf, bbOf, List.cons_append, List.nil_append, Fin.isValue, Matrix.cons_val]
  unfold_payloads
  rfl

theorem HS3_7_eq : sl.HS3_7 c arg1 harg1 arg2 harg2 arg3 harg3 arg4 harg4 arg5 harg5 arg6 harg6 arg10 arg11 x0 x1 x2 x3 x4 x5 = o1 x0 x1 x2 x3 x4 x5 := by
  simp only [sl.HS3_7, sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.v170, sl.v171, sl.v240, sl.v241, sl.v310, sl.v311, sl.v380, sl.v381,
    HS0_7_eq, HS1_7_eq, View.readCov_eq_canon', View.readAt_eq_ld, Memref.IsWhole.read_unread]
  simp only [o1, tilesO, oddTiles, borderO, scrTile, wbOf, bbOf, List.cons_append, List.nil_append, Fin.isValue, Matrix.cons_val]
  unfold_payloads
  rfl

/-- The stores after the second layer. -/
theorem HS0_11_eq : sl.HS0_11 c arg1 harg1 arg2 harg2 arg3 harg3 arg4 harg4 arg5 harg5 arg6 harg6 arg10 arg11 arg12 arg13 x0 x1 x2 x3 x4 x5 = e2 x0 x1 x2 x3 x4 x5 := by
  simp only [sl.HS0_11, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.v478, sl.v479, sl.v548, sl.v549, sl.v618, sl.v619, sl.v688, sl.v689,
    HS0_7_eq, HS2_7_eq, HS3_7_eq, View.readCov_eq_canon', View.readAt_eq_ld, Memref.IsWhole.read_unread]
  simp only [e2, tilesE, evenTiles, scrTile, wbOf, bbOf, List.cons_append, List.nil_append, Fin.isValue, Matrix.cons_val]
  unfold_payloads
  rfl

theorem HS1_11_eq : sl.HS1_11 c arg1 harg1 arg2 harg2 arg3 harg3 arg4 harg4 arg5 harg5 arg6 harg6 arg10 arg11 arg12 arg13 x0 x1 x2 x3 x4 x5 = o2 x0 x1 x2 x3 x4 x5 := by
  simp only [sl.HS1_11, sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.v478, sl.v479, sl.v548, sl.v549, sl.v618, sl.v619, sl.v688, sl.v689,
    HS1_7_eq, HS2_7_eq, HS3_7_eq, View.readCov_eq_canon', View.readAt_eq_ld, Memref.IsWhole.read_unread]
  simp only [o2, tilesO, oddTiles, scrTile, wbOf, bbOf, List.cons_append, List.nil_append, Fin.isValue, Matrix.cons_val]
  unfold_payloads
  rfl

/-- The stores after the third layer. -/
theorem HS2_11_eq : sl.HS2_11 c arg1 harg1 arg2 harg2 arg3 harg3 arg4 harg4 arg5 harg5 arg6 harg6 arg10 arg11 arg12 arg13 x0 x1 x2 x3 x4 x5 = e3 x0 x1 x2 x3 x4 x5 := by
  simp only [sl.HS2_11, sl.r_79, sl.r_80, sl.r_81, sl.r_82, sl.r_83, sl.r_84, sl.r_85, sl.r_86, sl.r_87, sl.r_88, sl.r_89, sl.r_90, sl.r_91, sl.r_92, sl.r_93, sl.r_94, sl.r_95, sl.r_96, sl.r_97, sl.r_98, sl.r_99, sl.r_100, sl.r_101, sl.r_102, sl.r_103, sl.r_104, sl.r_105, sl.r_106, sl.r_107, sl.r_108, sl.r_109, sl.r_110, sl.r_111, sl.v786, sl.v787, sl.v856, sl.v857, sl.v926, sl.v927, sl.v996, sl.v997,
    HS2_7_eq, HS0_11_eq, HS1_11_eq, View.readCov_eq_canon', View.readAt_eq_ld, Memref.IsWhole.read_unread]
  simp only [e3, tilesE, evenTiles, scrTile, wbOf, bbOf, List.cons_append, List.nil_append, Fin.isValue, Matrix.cons_val]
  unfold_payloads
  rfl

theorem HS3_11_eq : sl.HS3_11 c arg1 harg1 arg2 harg2 arg3 harg3 arg4 harg4 arg5 harg5 arg6 harg6 arg10 arg11 arg12 arg13 x0 x1 x2 x3 x4 x5 = o3 x0 x1 x2 x3 x4 x5 := by
  simp only [sl.HS3_11, sl.r_79, sl.r_80, sl.r_81, sl.r_82, sl.r_83, sl.r_84, sl.r_85, sl.r_86, sl.r_87, sl.r_88, sl.r_89, sl.r_90, sl.r_91, sl.r_92, sl.r_93, sl.r_94, sl.r_95, sl.r_96, sl.r_97, sl.r_98, sl.r_99, sl.r_100, sl.r_101, sl.r_102, sl.r_103, sl.r_104, sl.r_105, sl.r_106, sl.r_107, sl.r_108, sl.r_109, sl.r_110, sl.r_111, sl.v786, sl.v787, sl.v856, sl.v857, sl.v926, sl.v927, sl.v996, sl.v997,
    HS3_7_eq, HS0_11_eq, HS1_11_eq, View.readCov_eq_canon', View.readAt_eq_ld, Memref.IsWhole.read_unread]
  simp only [o3, tilesO, oddTiles, scrTile, wbOf, bbOf, List.cons_append, List.nil_append, Fin.isValue, Matrix.cons_val]
  unfold_payloads
  rfl

/-- The first layer's pooled channels through the classifier. -/
theorem r_43_eq : sl.r_43 c arg1 harg1 arg2 harg2 arg3 harg3 arg4 harg4 arg5 harg5 arg6 harg6 arg7 harg7 arg10 arg11 x0 x1 x2 x3 x4 x5 x6 = dots x0 x1 x2 x3 x4 x5 x6 0 := by
  simp only [sl.r_6, sl.r_7, sl.r_8, sl.r_9, sl.r_10, sl.r_11, sl.r_12, sl.r_13, sl.r_14, sl.r_15, sl.r_16, sl.r_17, sl.r_18, sl.r_19, sl.r_20, sl.r_21, sl.r_22, sl.r_23, sl.r_24, sl.r_25, sl.r_26, sl.r_27, sl.r_28, sl.r_29, sl.r_30, sl.r_31, sl.r_32, sl.r_33, sl.r_34, sl.r_35, sl.r_36, sl.r_37, sl.r_38, sl.r_39, sl.r_40, sl.r_41, sl.r_42, sl.r_43, sl.v170, sl.v171, sl.v240, sl.v241, sl.v310, sl.v311, sl.v380, sl.v381,
    HS0_7_eq, HS1_7_eq, View.readCov_eq_canon', View.readAt_eq_ld, Memref.IsWhole.read_unread]
  simp only [dots, classify, psum, acc, se, so, scrTile, wbOf, bbOf, cwOf, cbOf, Fin.isValue, Matrix.cons_val]
  unfold_payloads
  rfl

/-- The second layer's logits and confidence. -/
theorem r_76_eq : sl.r_76 c arg1 harg1 arg2 harg2 arg3 harg3 arg4 harg4 arg5 harg5 arg6 harg6 arg7 harg7 arg8 harg8 arg10 arg11 arg12 arg13 x0 x1 x2 x3 x4 x5 x6 x7 = logits x0 x1 x2 x3 x4 x5 x6 x7 1 := by
  simp only [sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.v478, sl.v479, sl.v548, sl.v549, sl.v618, sl.v619, sl.v688, sl.v689,
    HS2_7_eq, HS3_7_eq, View.readCov_eq_canon', View.readAt_eq_ld, Memref.IsWhole.read_unread]
  simp only [logits, dots, classify, psum, acc, se, so, scrTile, wbOf, bbOf, cwOf, cbOf, Fin.isValue, Matrix.cons_val]
  unfold_payloads
  rfl

theorem r_77_eq : k0_pay131 (sl.r_77 c arg1 harg1 arg2 harg2 arg3 harg3 arg4 harg4 arg5 harg5 arg6 harg6 arg7 harg7 arg8 harg8 arg10 arg11 arg12 arg13 x0 x1 x2 x3 x4 x5 x6 x7) = conf x0 x1 x2 x3 x4 x5 x6 x7 1 := by
  simp only [sl.r_46, sl.r_47, sl.r_48, sl.r_49, sl.r_50, sl.r_51, sl.r_52, sl.r_53, sl.r_54, sl.r_55, sl.r_56, sl.r_57, sl.r_58, sl.r_59, sl.r_60, sl.r_61, sl.r_62, sl.r_63, sl.r_64, sl.r_65, sl.r_66, sl.r_67, sl.r_68, sl.r_69, sl.r_70, sl.r_71, sl.r_72, sl.r_73, sl.r_74, sl.r_75, sl.r_76, sl.r_77, sl.v478, sl.v479, sl.v548, sl.v549, sl.v618, sl.v619, sl.v688, sl.v689,
    HS2_7_eq, HS3_7_eq, View.readCov_eq_canon', View.readAt_eq_ld, Memref.IsWhole.read_unread]
  simp only [conf, dots, classify, psum, acc, se, so, scrTile, wbOf, bbOf, cwOf, cbOf, Fin.isValue, Matrix.cons_val]
  unfold_payloads
  rfl

/-- The third layer's logits and confidence. -/
theorem r_112_eq : sl.r_112 c arg1 harg1 arg2 harg2 arg3 harg3 arg4 harg4 arg5 harg5 arg6 harg6 arg7 harg7 arg8 harg8 arg10 arg11 arg12 arg13 x0 x1 x2 x3 x4 x5 x6 x7 = logits x0 x1 x2 x3 x4 x5 x6 x7 2 := by
  simp only [sl.r_79, sl.r_80, sl.r_81, sl.r_82, sl.r_83, sl.r_84, sl.r_85, sl.r_86, sl.r_87, sl.r_88, sl.r_89, sl.r_90, sl.r_91, sl.r_92, sl.r_93, sl.r_94, sl.r_95, sl.r_96, sl.r_97, sl.r_98, sl.r_99, sl.r_100, sl.r_101, sl.r_102, sl.r_103, sl.r_104, sl.r_105, sl.r_106, sl.r_107, sl.r_108, sl.r_109, sl.r_110, sl.r_111, sl.r_112, sl.v786, sl.v787, sl.v856, sl.v857, sl.v926, sl.v927, sl.v996, sl.v997,
    HS0_11_eq, HS1_11_eq, View.readCov_eq_canon', View.readAt_eq_ld, Memref.IsWhole.read_unread]
  simp only [logits, dots, classify, psum, acc, se, so, scrTile, wbOf, bbOf, cwOf, cbOf, Fin.isValue, Matrix.cons_val]
  unfold_payloads
  rfl

theorem r_113_eq : sl.r_113 c arg1 harg1 arg2 harg2 arg3 harg3 arg4 harg4 arg5 harg5 arg6 harg6 arg7 harg7 arg8 harg8 arg10 arg11 arg12 arg13 x0 x1 x2 x3 x4 x5 x6 x7 = conf x0 x1 x2 x3 x4 x5 x6 x7 2 := by
  simp only [sl.r_79, sl.r_80, sl.r_81, sl.r_82, sl.r_83, sl.r_84, sl.r_85, sl.r_86, sl.r_87, sl.r_88, sl.r_89, sl.r_90, sl.r_91, sl.r_92, sl.r_93, sl.r_94, sl.r_95, sl.r_96, sl.r_97, sl.r_98, sl.r_99, sl.r_100, sl.r_101, sl.r_102, sl.r_103, sl.r_104, sl.r_105, sl.r_106, sl.r_107, sl.r_108, sl.r_109, sl.r_110, sl.r_111, sl.r_112, sl.r_113, sl.v786, sl.v787, sl.v856, sl.v857, sl.v926, sl.v927, sl.v996, sl.v997,
    HS0_11_eq, HS1_11_eq, View.readCov_eq_canon', View.readAt_eq_ld, Memref.IsWhole.read_unread]
  simp only [conf, dots, classify, psum, acc, se, so, scrTile, wbOf, bbOf, cwOf, cbOf, Fin.isValue, Matrix.cons_val]
  unfold_payloads
  rfl

/-- The state after the first, the second and the third exit. -/
theorem st1_eq : (sl.r_45 c arg1 harg1 arg2 harg2 arg3 harg3 arg4 harg4 arg5 harg5 arg6 harg6 arg7 harg7 arg8 harg8 arg10 arg11 x0 x1 x2 x3 x4 x5 x6 x7, sl.v476 c arg1 harg1 arg2 harg2 arg3 harg3 arg4 harg4 arg5 harg5 arg6 harg6 arg7 harg7 arg8 harg8 arg10 arg11 x0 x1 x2 x3 x4 x5 x6 x7)
    = exit (logits x0 x1 x2 x3 x4 x5 x6 x7 0) (conf x0 x1 x2 x3 x4 x5 x6 x7 0) (k0_pay28, 0#1) := by
  simp only [sl.r_45, sl.v476, sl.v474, sl.v473, sl.cst_224, k0_pay85, sl.r_44, r_43_eq, View.readAt_eq_ld, Memref.IsWhole.read_unread,
    show ∀ b : BitVec 1, Scalar.andi (1#1 : BitVec 1) b = Scalar.andi (Scalar.xori 0#1 1#1) b from fun _ => rfl]
  rfl

theorem st2_eq : (sl.r_78 c arg1 harg1 arg2 harg2 arg3 harg3 arg4 harg4 arg5 harg5 arg6 harg6 arg7 harg7 arg8 harg8 arg10 arg11 arg12 arg13 x0 x1 x2 x3 x4 x5 x6 x7, sl.v784 c arg1 harg1 arg2 harg2 arg3 harg3 arg4 harg4 arg5 harg5 arg6 harg6 arg7 harg7 arg8 harg8 arg10 arg11 arg12 arg13 x0 x1 x2 x3 x4 x5 x6 x7)
    = exit (logits x0 x1 x2 x3 x4 x5 x6 x7 1) (conf x0 x1 x2 x3 x4 x5 x6 x7 1) (sl.r_45 c arg1 harg1 arg2 harg2 arg3 harg3 arg4 harg4 arg5 harg5 arg6 harg6 arg7 harg7 arg8 harg8 arg10 arg11 x0 x1 x2 x3 x4 x5 x6 x7, sl.v476 c arg1 harg1 arg2 harg2 arg3 harg3 arg4 harg4 arg5 harg5 arg6 harg6 arg7 harg7 arg8 harg8 arg10 arg11 x0 x1 x2 x3 x4 x5 x6 x7) := by
  simp only [sl.r_78, sl.v784, sl.v780, sl.v781, sl.v782, sl.cst_224, k0_pay132, r_76_eq, r_77_eq]
  rfl

theorem st3_eq : (sl.r_114 c arg1 harg1 arg2 harg2 arg3 harg3 arg4 harg4 arg5 harg5 arg6 harg6 arg7 harg7 arg8 harg8 arg10 arg11 arg12 arg13 x0 x1 x2 x3 x4 x5 x6 x7, sl.v1092 c arg1 harg1 arg2 harg2 arg3 harg3 arg4 harg4 arg5 harg5 arg6 harg6 arg7 harg7 arg8 harg8 arg10 arg11 arg12 arg13 x0 x1 x2 x3 x4 x5 x6 x7)
    = exit (logits x0 x1 x2 x3 x4 x5 x6 x7 2) (conf x0 x1 x2 x3 x4 x5 x6 x7 2) (sl.r_78 c arg1 harg1 arg2 harg2 arg3 harg3 arg4 harg4 arg5 harg5 arg6 harg6 arg7 harg7 arg8 harg8 arg10 arg11 arg12 arg13 x0 x1 x2 x3 x4 x5 x6 x7, sl.v784 c arg1 harg1 arg2 harg2 arg3 harg3 arg4 harg4 arg5 harg5 arg6 harg6 arg7 harg7 arg8 harg8 arg10 arg11 arg12 arg13 x0 x1 x2 x3 x4 x5 x6 x7) := by
  simp only [sl.r_114, sl.v1092, sl.v1088, sl.v1089, sl.v1090, sl.cst_224, k0_pay188, r_112_eq, r_113_eq]
  rfl

/-- The body's only store: the network of its blocks. -/
theorem r_152_eq : sl.r_152 c arg1 harg1 arg2 harg2 arg3 harg3 arg4 harg4 arg5 harg5 arg6 harg6 arg7 harg7 arg8 harg8 arg10 arg11 arg12 arg13 x0 x1 x2 x3 x4 x5 x6 x7 = net x0 x1 x2 x3 x4 x5 x6 x7 := by
  have h : sl.r_152 c arg1 harg1 arg2 harg2 arg3 harg3 arg4 harg4 arg5 harg5 arg6 harg6 arg7 harg7 arg8 harg8 arg10 arg11 arg12 arg13 x0 x1 x2 x3 x4 x5 x6 x7 = shapeCast S1x1x128
      (let s := exit (logits x0 x1 x2 x3 x4 x5 x6 x7 3) (conf x0 x1 x2 x3 x4 x5 x6 x7 3) (sl.r_114 c arg1 harg1 arg2 harg2 arg3 harg3 arg4 harg4 arg5 harg5 arg6 harg6 arg7 harg7 arg8 harg8 arg10 arg11 arg12 arg13 x0 x1 x2 x3 x4 x5 x6 x7, sl.v1092 c arg1 harg1 arg2 harg2 arg3 harg3 arg4 harg4 arg5 harg5 arg6 harg6 arg7 harg7 arg8 harg8 arg10 arg11 arg12 arg13 x0 x1 x2 x3 x4 x5 x6 x7)
       Scalar.select s.2 s.1 (logits x0 x1 x2 x3 x4 x5 x6 x7 3)) shapeCasts_S128_S1x1x128 := by
    generalize hs : (sl.r_114 c arg1 harg1 arg2 harg2 arg3 harg3 arg4 harg4 arg5 harg5 arg6 harg6 arg7 harg7 arg8 harg8 arg10 arg11 arg12 arg13 x0 x1 x2 x3 x4 x5 x6 x7, sl.v1092 c arg1 harg1 arg2 harg2 arg3 harg3 arg4 harg4 arg5 harg5 arg6 harg6 arg7 harg7 arg8 harg8 arg10 arg11 arg12 arg13 x0 x1 x2 x3 x4 x5 x6 x7) = s
    obtain ⟨hs1, hs2⟩ := Prod.mk.injEq .. ▸ hs.symm
    simp only [sl.r_152, ← hs1, ← hs2, sl.r_115, sl.r_116, sl.r_117, sl.r_118, sl.r_119, sl.r_120, sl.r_121, sl.r_122, sl.r_123, sl.r_124, sl.r_125, sl.r_126, sl.r_127, sl.r_128, sl.r_129, sl.r_130, sl.r_131, sl.r_132, sl.r_133, sl.r_134, sl.r_135, sl.r_136, sl.r_137, sl.r_138, sl.r_139, sl.r_140, sl.r_141, sl.r_142, sl.r_143, sl.r_144, sl.r_145, sl.r_146, sl.r_147, sl.r_148, sl.r_149, sl.r_150, sl.r_151, sl.v1094, sl.v1095, sl.v1164, sl.v1165, sl.v1234, sl.v1235, sl.v1304, sl.v1305,
      HS2_11_eq, HS3_11_eq, View.readCov_eq_canon', View.readAt_eq_ld, Memref.IsWhole.read_unread]
    simp only [exit, logits, conf, dots, classify, psum, acc, se, so, scrTile, wbOf, bbOf, cwOf, cbOf, Fin.isValue, Matrix.cons_val]
    unfold_payloads
    rfl
  rw [h, st3_eq, st2_eq, st1_eq]
  rfl

/-- What the body leaves in the output block. -/
theorem out_eq (i : grid0.Coords) (arg9 : Memref sig .tc .vmem S1x1x128 .f32) (harg9 : arg9.IsWhole) (harg10 : arg10.IsWhole) (harg11 : arg11.IsWhole)
    (harg12 : arg12.IsWhole) (harg13 : arg13.IsWhole) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = net x0 x1 x2 x3 x4 x5 x6 x7 := by
  unfold out0_A_8
  rw [View.read_writes_junk_eq_canon]
  have h : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).1
      = [⟨Rect.unit ![0, 0, 0] S1x1x128.size inb_S1x1x128_S1x1x128_0_0_0, sl.r_152 c arg1 harg1 arg2 harg2 arg3 harg3 arg4 harg4 arg5 harg5 arg6 harg6 arg7 harg7 arg8 harg8 arg10 arg11 arg12 arg13 x0 x1 x2 x3 x4 x5 x6 x7⟩] := rfl
  rw [h, View.canon_unit_zero (by decide), r_152_eq]

end Words

end Cert.Msd

end
-- ==== Proof.Array.lean ====
/-
  What the output array holds after the run: each sample's row is the body's result on that sample's blocks.
-/
module

public import proofs.«01_k».proof.Proof.Body
public import Idealize.ShloMosaic.Lib.Pipeline.Value
public import Idealize.ShloMosaic.Lib.Claim

@[expose] public section

set_option maxRecDepth 16384

noncomputable section

namespace Cert.Msd

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The body's result at grid point `t`. -/
def outAt (c : Dev nD) (t : Fin cfg0.N) : FVec F S1x1x128 .f32 :=
  net (iblk m c 0 t) (iblk m c 1 t) (iblk m c 2 t) (iblk m c 3 t) (iblk m c 4 t) (iblk m c 5 t) (iblk m c 6 t) (iblk m c 7 t)

theorem outs_eq (c : Dev nD) (t : Fin cfg0.N) : outsAt0 m c t = outAt m c t := by
  unfold outsAt0 outAt
  exact out_eq ..

/-- The output array: row `b` is what point `b` computes. -/
def arr (c : Dev nD) : S16x1x128.Idx → Elt F .f32 := fun i => outAt m c (i 0) (ix3 0 0 (i 2))

theorem index_out : ∀ t : Fin grid0.N, win0_8.index t = ![t.val, 0, 0] := by decide +kernel

theorem array_eq (c : Dev nD) : (dats m 0 c).arrAt 8 cfg0.N = arr m c := by
  refine (dats m 0 c).arrAt_eq_of_covers 8 _ (by decide +kernel) fun t hf y => ?_
  blk_simp
  rw [after0_8, outs_eq]
  have h0 : ((win0_8.blk t).view.emb y) 0 = t := Fin.ext (by blk_simp [index_out])
  have h2 : ((win0_8.blk t).view.emb y) 2 = y 2 := Fin.ext (by blk_simp [index_out])
  show outAt m c t y = outAt m c (((win0_8.blk t).view.emb y) 0) (ix3 0 0 (((win0_8.blk t).view.emb y) 2))
  rw [h0, h2]
  refine congrArg _ (funext fun a => ?_)
  fin_cases a
  · exact Fin.ext (by idx_bounds y; simp)
  · exact Fin.ext (by idx_bounds y; simp)
  · rfl

/-- The run of the whole program: the result is the first hundred lanes of the output array's rows. -/
theorem run : θ_run defs (onTc (τ := τ) (main (F := F))) ⟨m, fun _ => 0, ρ⟩ fun r => ∀ c : Dev nD,
    r.2.mem ((c : Thread nD τ).loc main_v48)
      = shapeCast S16x100 (extractStridedSlice S16x1x100 ![0, 0, 0] (arr m c) slices_S16x1x128_S16x1x100_0_0_0) shapeCasts_S16x1x100_S16x100 := by
  run_from run_main m ρ
  unfold Pipeline.afterTail₀
  simp only [List.flatten_cons, List.flatten_nil, List.append_nil]
  unfold hostOps1
  after_results
  have h := Pipeline.withArrays_arr (cfgs 0).spec launch0.win.arr_inj c (V0 m c) (fun w => (dats m 0 c).arrAt w (cfgs 0).N) 8
  exact congrArg (fun x => shapeCast S16x100 (extractStridedSlice S16x1x100 ![0, 0, 0] x slices_S16x1x128_S16x1x100_0_0_0)
    shapeCasts_S16x1x100_S16x100) (h.trans (array_eq m c))

end Cert.Msd

end
-- ==== Proof.Place.lean ====
module

public import proofs.«01_k».proof.Proof.Network
public import proofs.«01_k».proof.Proof.Array
public import Idealize.ShloMosaic.Lib.Routing.OpsSet
public import Idealize.ShloMosaic.Lib.Routing.OpsPair

/-! # Writing the weights of a layer into the wider table

The kernel's weight table has one more row of taps than the convolution and two halves of columns. Each half is the layer's weights, written at an offset
into a table of zeros. Here the write is read at one element. -/

@[expose] public section

set_option maxRecDepth 16384

noncomputable section

namespace Cert.Msd

open Cert.KernelIdeal Cert.KernelIdeal.Gen Idealize.ShloMosaic Idealize.ShloMosaic.TcCoe Idealize.SL.Sem

/-- The dimension numbers of the write. -/
abbrev placing : ScatterDims S4x4x3x128x256 S2 S4x3x3x128x128 := scatter_S4x4x3x128x256_S2_S4x3x3x128x128_01234_n_14_0

/-- Where an update lands: its own coordinates, moved by the two offsets on the axes of tap rows and of columns. -/
theorem placing_lands (idx : IVec S2 32) (k : S4x3x3x128x128.Idx) (y : S4x4x3x128x256.Idx) :
    placing.resultIdx? k idx = some y ↔
      (k 0).val = (y 0).val ∧ (idx (ix1 0)).toInt + (k 1).val = (y 1).val ∧ (k 2).val = (y 2).val ∧ (k 3).val = (y 3).val
        ∧ (idx (ix1 1)).toInt + (k 4).val = (y 4).val := by
  rw [Routing.resultIdx?_eq_some]
  have w : ∀ a : Fin 5, placing.window k a = (k a).val := fun a => by fin_cases a <;> rfl
  have s0 : placing.start k idx 0 = 0 := rfl
  have s2 : placing.start k idx 2 = 0 := rfl
  have s3 : placing.start k idx 3 = 0 := rfl
  have s1 : placing.start k idx 1 = (idx (ix1 0)).toInt := by
    refine congrArg (fun i => (idx i).toInt) ?_
    funext a; fin_cases a; rfl
  have s4 : placing.start k idx 4 = (idx (ix1 1)).toInt := by
    refine congrArg (fun i => (idx i).toInt) ?_
    funext a; fin_cases a; rfl
  constructor
  · intro h
    have h0 := h 0; have h1 := h 1; have h2 := h 2; have h3 := h 3; have h4 := h 4
    rw [w] at h0 h1 h2 h3 h4
    rw [s0] at h0; rw [s1] at h1; rw [s2] at h2; rw [s3] at h3; rw [s4] at h4
    exact ⟨by omega, h1, by omega, by omega, h4⟩
  · rintro ⟨h0, h1, h2, h3, h4⟩ a
    rw [w]
    fin_cases a
    · exact (congrArg (· + _) s0).trans (by simpa using h0)
    · exact (congrArg (· + _) s1).trans h1
    · exact (congrArg (· + _) s2).trans (by simpa using h2)
    · exact (congrArg (· + _) s3).trans (by simpa using h3)
    · exact (congrArg (· + _) s4).trans h4

/-- An element that the write reaches. -/
theorem placed (x : S4x4x3x128x256.Idx → EReal) (idx : IVec S2 32) (u : S4x3x3x128x128.Idx → EReal) (p q : ℕ)
    (hp : (idx (ix1 0)).toInt = p) (hq : (idx (ix1 1)).toInt = q) (d : Fin 4) (ky kx : Fin 3) (k o : Fin 128) (h : p + ky < 4) (h' : q + o < 256) :
    Host.scatter placing (fun _ b => b) x idx u (ix5 d ⟨p + ky, h⟩ kx k ⟨q + o, h'⟩) = u (ix5 d ky kx k o) := by
  refine Routing.scatter_set_hit placing x idx u _ _ (fun j hj => ?_) (ix5 d ky kx k o) ((placing_lands _ _ _).2 ?_)
  · obtain ⟨h0, h1, h2, h3, h4⟩ := (placing_lands _ _ _).1 hj
    rw [hp] at h1; rw [hq] at h4
    refine congrArg u (funext fun a => ?_)
    apply Fin.ext
    change (p : ℤ) + ((j 1).val : ℤ) = ((p + ky.val : ℕ) : ℤ) at h1
    change (q : ℤ) + ((j 4).val : ℤ) = ((q + o.val : ℕ) : ℤ) at h4
    fin_cases a
    · exact h0
    · show (j 1).val = ky.val
      omega
    · exact h2
    · exact h3
    · show (j 4).val = o.val
      omega
  · rw [hp, hq]
    exact ⟨rfl, rfl, rfl, rfl, rfl⟩

/-- An element that the write does not reach. -/
theorem unplaced (x : S4x4x3x128x256.Idx → EReal) (idx : IVec S2 32) (u : S4x3x3x128x128.Idx → EReal) (p q : ℕ)
    (hp : (idx (ix1 0)).toInt = p) (hq : (idx (ix1 1)).toInt = q) (d : Fin 4) (ky : Fin 4) (kx : Fin 3) (k : Fin 128) (o : Fin 256)
    (h : ky.val < p ∨ p + 3 ≤ ky.val ∨ o.val < q ∨ q + 128 ≤ o.val) :
    Host.scatter placing (fun _ b => b) x idx u (ix5 d ky kx k o) = x (ix5 d ky kx k o) := by
  refine Routing.scatter_set_miss placing x idx u _ fun j hj => ?_
  obtain ⟨-, h1, -, -, h4⟩ := (placing_lands _ _ _).1 hj
  rw [hp] at h1; rw [hq] at h4
  have a1 : (j 1).val < 3 := (j 1).isLt
  have a4 : (j 4).val < 128 := (j 4).isLt
  change (p : ℤ) + ((j 1).val : ℤ) = (ky.val : ℤ) at h1
  change (q : ℤ) + ((j 4).val : ℤ) = (o.val : ℤ) at h4
  omega

end Cert.Msd

end
-- ==== Proof.Entry.lean ====
/-
  What the host hands to the kernel: each array that the kernel reads, at an index, as an entry of an argument.
-/
module

public import proofs.«01_k».proof.Proof.Place

@[expose] public section

set_option maxRecDepth 16384

noncomputable section

namespace Cert.Msd

open Cert.KernelIdeal Cert.KernelIdeal.Gen Idealize.ShloMosaic Idealize.ShloMosaic.TcCoe Idealize.SL.Sem

/-- The host operations before the kernel. -/
abbrev before : List (HloOp τ sig (Elt Ideal)) :=
  List.flatten [hostOps0, hostOps0_1, hostOps0_2, hostOps0_3, hostOps0_4, hostOps0_5, hostOps0_6, hostOps0_7]

variable (V : Valuation τ sig (Elt Ideal))

/-- The images. -/
abbrev argX : S16x3x112x112.Idx → EReal := V (Proc.devRef .tc main_arg0)
/-- The weights of the first convolution, one set per scale. -/
abbrev argWi : S3x128x3x3x3.Idx → EReal := V (Proc.devRef .tc main_arg1)
/-- Its biases. -/
abbrev argBi : S3x128.Idx → EReal := V (Proc.devRef .tc main_arg2)
/-- The weights of the four layers, one set per scale. -/
abbrev argW : S4x3x128x128x3x3.Idx → EReal := V (Proc.devRef .tc main_arg3)
/-- Their biases. -/
abbrev argB : S4x3x128.Idx → EReal := V (Proc.devRef .tc main_arg4)
/-- The weights of the four classifiers. -/
abbrev argWc : S4x100x128.Idx → EReal := V (Proc.devRef .tc main_arg5)
/-- Their biases. -/
abbrev argBc : S4x100.Idx → EReal := V (Proc.devRef .tc main_arg6)

/-- A border's value: the integer 0 as a float. -/
theorem border : (FloatOps.sitofp (F := Ideal) FTy.f32 0#32 : EReal) = 0 := by
  change ((((0#32 : BitVec 32).toInt : ℤ) : ℝ) : EReal) = 0
  simp

/-! ## Weights and biases -/

theorem v20_apply (ky kx ci : Fin 3) (o : Fin 128) :
    (StableHlo.after before V (Proc.devRef .tc main_v20) : S27x128.Idx → EReal) (ix2 ⟨(ky * 3 + kx) * 3 + ci, by omega⟩ o) = argWi V (ix5 2 o ci ky kx) := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results_simp
  pointwise
  rw [show (⟨((ky * 3 + kx) * 3 + ci) % 3, by omega⟩ : Fin 3) = ci from Fin.ext (by show _ % 3 = _; omega),
    show (⟨((ky * 3 + kx) * 3 + ci) / 9, by omega⟩ : Fin 3) = ky from Fin.ext (by show _ / 9 = _; omega),
    show (⟨((ky * 3 + kx) * 3 + ci) / 3 % 3, by omega⟩ : Fin 3) = kx from Fin.ext (by show _ / 3 % 3 = _; omega)]

theorem v23_apply (o : Fin 128) : (StableHlo.after before V (Proc.devRef .tc main_v23) : S1x128.Idx → EReal) (ix2 0 o) = argBi V (ix2 2 o) := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results_simp
  pointwise

theorem v42_apply (d : Fin 4) (r : Fin 2) (o : Fin 128) :
    (StableHlo.after before V (Proc.devRef .tc main_v42) : S4x256.Idx → EReal) (ix2 d ⟨r * 128 + o, by omega⟩) = argB V (ix3 d 2 o) := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results_simp
  pointwise

theorem v44_apply (d : Fin 4) (k j : Fin 128) :
    (StableHlo.after before V (Proc.devRef .tc main_v44) : S4x128x128.Idx → EReal) (ix3 d k j)
      = if h : j.val < 100 then argWc V (ix3 d ⟨j, h⟩ k) else 0 := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results_simp
  pointwise
  rw [border]

theorem v45_apply (d : Fin 4) (j : Fin 128) :
    (StableHlo.after before V (Proc.devRef .tc main_v45) : S4x128.Idx → EReal) (ix2 d j)
      = if h : j.val < 100 then argBc V (ix2 d ⟨j, h⟩) else ⊥ := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results_simp
  pointwise
  split_ifs
  · rfl
  · exact bits_bot

/-- The two halves of the weight table: the left half holds the taps in the first three of its four rows, the right half in the last three. -/
theorem v37_apply (d : Fin 4) (ky : Fin 4) (kx : Fin 3) (k : Fin 128) (o : Fin 256) :
    (StableHlo.after before V (Proc.devRef .tc main_v37) : S4x1536x256.Idx → EReal) (ix3 d ⟨(ky * 3 + kx) * 128 + k, by omega⟩ o)
      = if h : o.val < 128 then (if h' : ky.val < 3 then argW V (ix6 d 2 ⟨o, h⟩ k ⟨ky, h'⟩ kx) else 0)
        else (if h' : 1 ≤ ky.val then argW V (ix6 d 2 ⟨o - 128, by omega⟩ k ⟨ky - 1, by omega⟩ kx) else 0) := by
  simp only [before, hostOps0, hostOps0_1, hostOps0_2, hostOps0_3, hostOps0_4, hostOps0_5, hostOps0_6, hostOps0_7, List.flatten_cons,
    List.flatten_nil, List.append_nil, List.cons_append, List.nil_append, StableHlo.TRef.unary, StableHlo.TRef.binary, StableHlo.TRef.toBuf,
    StableHlo.TRef.ofBuf, cast_eq]
  after_results
  pointwise
  rw [show (⟨((ky * 3 + kx) * 128 + k) / 384, by omega⟩ : Fin 4) = ky from Fin.ext (by show _ / 384 = _; omega),
    show (⟨((ky * 3 + kx) * 128 + k) / 128 % 3, by omega⟩ : Fin 3) = kx from Fin.ext (by show _ / 128 % 3 = _; omega),
    show (⟨((ky * 3 + kx) * 128 + k) % 128, by omega⟩ : Fin 128) = k from Fin.ext (by show _ % 128 = _; omega)]
  have zero : (broadcastInDim S4x4x3x128x256 ![] bcast_S_S4x4x3x128x256 (constant (F := Ideal) S_ FTy.f32 0#32) : S4x4x3x128x256.Idx → EReal) (ix5 d ky kx k o) = 0 := by
    pointwise
  by_cases h : o.val < 128
  · rw [dif_pos h]
    rw [unplaced _ _ _ 1 128 (by pointwise; rfl) (by pointwise; rfl) d ky kx k o (by omega)]
    by_cases h' : ky.val < 3
    · rw [dif_pos h']
      have := placed (broadcastInDim S4x4x3x128x256 ![] bcast_S_S4x4x3x128x256 (constant (F := Ideal) S_ FTy.f32 0#32))
        (concatenate S2 0 [⟨S1, broadcastInDim S1 ![] bcast_S_S1 (constantI S_ 32 0#32)⟩, ⟨S1, broadcastInDim S1 ![] bcast_S_S1 (constantI S_ 32 0#32)⟩]
          concatenates_S1_S1_S2_d0) (transpose S4x3x3x128x128 [0, 3, 4, 2, 1]
          (fun i => argW V (ix6 (i 0) 2 (i 1) (i 2) (i 3) (i 4))) transposes_S4x128x128x3x3_S4x3x3x128x128_0_3_4_2_1) 0 0
        (by pointwise; rfl) (by pointwise; rfl) d ⟨ky, h'⟩ kx k ⟨o, h⟩ (by simp) (by simp)
      simp only [Nat.zero_add, Fin.eta] at this
      refine this.trans ?_
      pointwise
    · rw [dif_neg h', unplaced _ _ _ 0 0 (by pointwise; rfl) (by pointwise; rfl) d ky kx k o (by omega)]
      exact zero
  · rw [dif_neg h]
    by_cases h' : 1 ≤ ky.val
    · rw [dif_pos h']
      obtain ⟨ky', rfl⟩ : ∃ ky' : Fin 3, ky = ⟨1 + ky'.val, Nat.add_lt_add_left ky'.isLt 1⟩ := ⟨⟨ky - 1, by omega⟩, Fin.ext (by show ky.val = 1 + (ky - 1); omega)⟩
      obtain ⟨o', rfl⟩ : ∃ o' : Fin 128, o = ⟨128 + o'.val, Nat.add_lt_add_left o'.isLt 128⟩ := ⟨⟨o - 128, by omega⟩, Fin.ext (by show o.val = 128 + (o - 128); omega)⟩
      rw [placed _ _ _ 1 128 (by pointwise; rfl) (by pointwise; rfl) d ky' kx k o']
      pointwise
    · rw [dif_neg h', unplaced _ _ _ 1 128 (by pointwise; rfl) (by pointwise; rfl) d ky kx k o (by omega),
        unplaced _ _ _ 0 0 (by pointwise; rfl) (by pointwise; rfl) d ky kx k o (by omega)]
      exact zero

/-! ## The windows of the image -/

/-- The operations up to the nine shifted images. -/
abbrev shifting : List (HloOp τ sig (Elt Ideal)) := hostOps0 ++ (hostOps0_1 ++ hostOps0_2.take 9)

/-- The operations after them. -/
abbrev joining : List (HloOp τ sig (Elt Ideal)) := hostOps0_2.drop 9 ++ (hostOps0_3 ++ (hostOps0_4 ++ (hostOps0_5 ++ (hostOps0_6 ++ hostOps0_7))))

theorem before_split : StableHlo.after before V = StableHlo.after joining (StableHlo.after shifting V) := by
  rw [← StableHlo.after_append]; rfl

/-- Image `b`, the channel last. -/
abbrev image (b : Fin 16) : Img 3 := fun r c ci => argX V (ix4 b ci r c)

/-- `v` is the image with its border, moved by `dy` rows and `dx` columns. -/
abbrev Shifted (v : S16x112x112x3.Idx → EReal) (dy dx : ℕ) : Prop :=
  ∀ (b : Fin 16) (r c : Fin 112) (ci : Fin 3), v (ix4 b r c ci) = padded (image V b) (r + dy) (c + dx) ci

theorem same_pixel (b : Fin 16) (ci : Fin 3) {r r' c c' : Fin 112} (hr : r.val = r'.val) (hc : c.val = c'.val) :
    argX V (ix4 b ci r c) = argX V (ix4 b ci r' c') := by
  rw [Fin.ext hr, Fin.ext hc]

/-- The nine shifted images are among the values `U`. -/
structure Pieces (U : Valuation τ sig (Elt Ideal)) : Prop where
  p0 : Shifted V (U (Proc.devRef .tc main_v2)) 0 0
  p1 : Shifted V (U (Proc.devRef .tc main_v3)) 0 1
  p2 : Shifted V (U (Proc.devRef .tc main_v4)) 0 2
  p3 : Shifted V (U (Proc.devRef .tc main_v5)) 1 0
  p4 : Shifted V (U (Proc.devRef .tc main_v6)) 1 1
  p5 : Shifted V (U (Proc.devRef .tc main_v7)) 1 2
  p6 : Shifted V (U (Proc.devRef .tc main_v8)) 2 0
  p7 : Shifted V (U (Proc.devRef .tc main_v9)) 2 1
  p8 : Shifted V (U (Proc.devRef .tc main_v10)) 2 2

set_option maxHeartbeats 1000000 in
theorem shifted : Pieces V (StableHlo.after shifting V) := by
  refine ⟨?_, ?_, ?_, ?_, ?_, ?_, ?_, ?_, ?_⟩ <;> intro b r c ci <;>
  simp only [shifting, hostOps0, hostOps0_1, hostOps0_2, List.take_succ_cons, List.take_zero,
    List.cons_append, List.nil_append, StableHlo.TRef.unary, StableHlo.TRef.binary, StableHlo.TRef.toBuf,
    StableHlo.TRef.ofBuf, cast_eq] <;>
  after_results_simp <;>
  pointwise <;>
  rw [padded] <;>
  split_ifs <;>
  first
    | omega
    | exact border
    | (refine same_pixel V b ci ?_ ?_ <;> dsimp only <;> omega)

/-- The nine images side by side: the one that holds entry `(ky, kx, ci)` is moved by `ky` rows and `kx` columns. -/
theorem nine {U : Valuation τ sig (Elt Ideal)} (h : Pieces V U) (b : Fin 16) (r c : Fin 112) (ky kx ci : Fin 3) (n : ℕ) (hn : n = (ky * 3 + kx) * 3 + ci) :
    (if h1 : n < 3 then (U (Proc.devRef .tc main_v2) : S16x112x112x3.Idx → EReal) (ix4 b r c ⟨n, h1⟩)
      else if h1 : n - 3 < 3 then (U (Proc.devRef .tc main_v3) : S16x112x112x3.Idx → EReal) (ix4 b r c ⟨n - 3, h1⟩)
      else if h1 : n - 3 - 3 < 3 then (U (Proc.devRef .tc main_v4) : S16x112x112x3.Idx → EReal) (ix4 b r c ⟨n - 3 - 3, h1⟩)
      else if h1 : n - 3 - 3 - 3 < 3 then (U (Proc.devRef .tc main_v5) : S16x112x112x3.Idx → EReal) (ix4 b r c ⟨n - 3 - 3 - 3, h1⟩)
      else if h1 : n - 3 - 3 - 3 - 3 < 3 then (U (Proc.devRef .tc main_v6) : S16x112x112x3.Idx → EReal) (ix4 b r c ⟨n - 3 - 3 - 3 - 3, h1⟩)
      else if h1 : n - 3 - 3 - 3 - 3 - 3 < 3 then (U (Proc.devRef .tc main_v7) : S16x112x112x3.Idx → EReal) (ix4 b r c ⟨n - 3 - 3 - 3 - 3 - 3, h1⟩)
      else if h1 : n - 3 - 3 - 3 - 3 - 3 - 3 < 3 then (U (Proc.devRef .tc main_v8) : S16x112x112x3.Idx → EReal) (ix4 b r c ⟨n - 3 - 3 - 3 - 3 - 3 - 3, h1⟩)
      else if h1 : n - 3 - 3 - 3 - 3 - 3 - 3 - 3 < 3 then
        (U (Proc.devRef .tc main_v9) : S16x112x112x3.Idx → EReal) (ix4 b r c ⟨n - 3 - 3 - 3 - 3 - 3 - 3 - 3, h1⟩)
      else (U (Proc.devRef .tc main_v10) : S16x112x112x3.Idx → EReal) (ix4 b r c ⟨n - 3 - 3 - 3 - 3 - 3 - 3 - 3 - 3, by omega⟩))
      = padded (image V b) (r + ky) (c + kx) ci := by
  have e : ∀ (dy dx m : ℕ) (hm : m < 3), ky.val = dy → kx.val = dx → m = ci.val →
      padded (image V b) (r + dy) (c + dx) ⟨m, hm⟩ = padded (image V b) (r + ky) (c + kx) ci := by
    rintro _ _ _ _ rfl rfl rfl; rfl
  split_ifs
  · rw [h.p0]; exact e _ _ _ _ (by omega) (by omega) (by omega)
  · rw [h.p1]; exact e _ _ _ _ (by omega) (by omega) (by omega)
  · rw [h.p2]; exact e _ _ _ _ (by omega) (by omega) (by omega)
  · rw [h.p3]; exact e _ _ _ _ (by omega) (by omega) (by omega)
  · rw [h.p4]; exact e _ _ _ _ (by omega) (by omega) (by omega)
  · rw [h.p5]; exact e _ _ _ _ (by omega) (by omega) (by omega)
  · rw [h.p6]; exact e _ _ _ _ (by omega) (by omega) (by omega)
  · rw [h.p7]; exact e _ _ _ _ (by omega) (by omega) (by omega)
  · rw [h.p8]; exact e _ _ _ _ (by omega) (by omega) (by omega)

theorem even_rows {U : Valuation τ sig (Elt Ideal)} (h : Pieces V U) (b : Fin 16) (p : Fin 56) (c : Fin 112) (ky kx ci : Fin 3) :
    (StableHlo.after joining U (Proc.devRef .tc main_v14) : S16x56x128x27.Idx → EReal) (ix4 b p ⟨8 + c, by omega⟩ ⟨(ky * 3 + kx) * 3 + ci, by omega⟩)
      = padded (image V b) (2 * p + 0 + ky) (c + kx) ci := by
  simp only [joining, hostOps0_2, hostOps0_3, hostOps0_4, hostOps0_5, hostOps0_6, hostOps0_7, List.drop_succ_cons, List.drop_zero,
    List.cons_append, List.nil_append, StableHlo.TRef.unary, StableHlo.TRef.binary, StableHlo.TRef.toBuf,
    StableHlo.TRef.ofBuf, cast_eq]
  after_results
  pointwise
  rw [dif_pos (by omega)]
  exact nine V h b ⟨2 * p, by omega⟩ c ky kx ci _ rfl

theorem odd_rows {U : Valuation τ sig (Elt Ideal)} (h : Pieces V U) (b : Fin 16) (p : Fin 56) (c : Fin 112) (ky kx ci : Fin 3) :
    (StableHlo.after joining U (Proc.devRef .tc main_v15) : S16x56x128x27.Idx → EReal) (ix4 b p ⟨8 + c, by omega⟩ ⟨(ky * 3 + kx) * 3 + ci, by omega⟩)
      = padded (image V b) (2 * p + 1 + ky) (c + kx) ci := by
  simp only [joining, hostOps0_2, hostOps0_3, hostOps0_4, hostOps0_5, hostOps0_6, hostOps0_7, List.drop_succ_cons, List.drop_zero,
    List.cons_append, List.nil_append, StableHlo.TRef.unary, StableHlo.TRef.binary, StableHlo.TRef.toBuf,
    StableHlo.TRef.ofBuf, cast_eq]
  after_results
  pointwise
  rw [dif_pos (by omega)]
  refine (nine V h b ⟨1 + 2 * p, by omega⟩ c ky kx ci _ rfl).trans ?_
  rw [show ((⟨1 + 2 * p, by omega⟩ : Fin 112) : ℕ) = 2 * p + 1 from Nat.add_comm _ _]

theorem v14_apply (b : Fin 16) (p : Fin 56) (c : Fin 112) (ky kx ci : Fin 3) :
    (StableHlo.after before V (Proc.devRef .tc main_v14) : S16x56x128x27.Idx → EReal) (ix4 b p ⟨8 + c, by omega⟩ ⟨(ky * 3 + kx) * 3 + ci, by omega⟩)
      = padded (image V b) (2 * p + 0 + ky) (c + kx) ci := by
  rw [before_split]; exact even_rows V (shifted V) b p c ky kx ci

theorem v15_apply (b : Fin 16) (p : Fin 56) (c : Fin 112) (ky kx ci : Fin 3) :
    (StableHlo.after before V (Proc.devRef .tc main_v15) : S16x56x128x27.Idx → EReal) (ix4 b p ⟨8 + c, by omega⟩ ⟨(ky * 3 + kx) * 3 + ci, by omega⟩)
      = padded (image V b) (2 * p + 1 + ky) (c + kx) ci := by
  rw [before_split]; exact odd_rows V (shifted V) b p c ky kx ci

end Cert.Msd

end
-- ==== Proof.Given.lean ====
/-
  What the body is given at grid point `t`: the two windows of image `t`, and the weights and biases of the network.
-/
module

public import proofs.«01_k».proof.Proof.Entry

@[expose] public section

set_option maxRecDepth 16384

noncomputable section

namespace Cert.Msd

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The values before the program. -/
abbrev start : Valuation τ sig (Elt Ideal) := fun b => m (c, b)

theorem index_even : ∀ t : Fin grid0.N, win0_0.index t = ![t.val, 0, 0, 0] := by decide +kernel
theorem index_odd : ∀ t : Fin grid0.N, win0_1.index t = ![t.val, 0, 0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0, 0] := by decide +kernel
theorem index_5 : ∀ t : Fin grid0.N, win0_5.index t = ![0, 0] := by decide +kernel
theorem index_6 : ∀ t : Fin grid0.N, win0_6.index t = ![0, 0, 0] := by decide +kernel
theorem index_7 : ∀ t : Fin grid0.N, win0_7.index t = ![0, 0] := by decide +kernel

theorem found_eq : (fun b => V m c b) = fun b => StableHlo.after before (start m c) (Proc.devRef .tc b) := rfl

/-- A block at an index is the array at the place of the index. -/
theorem iblk_eq (U : Valuation τ sig (Elt Ideal)) (hU : StableHlo.after before (start m c) = U) (w : Fin 9) :
    iblk m c w t = ((cfg0.win w).blk t).view.read (Elt Ideal) (U (Proc.devRef .tc (Pipeline.arrRef spec0 w))) := by
  subst hU; rfl

theorem block_even (p : Fin 56) (q : Fin 128) (k : Fin 27) : (iblk m c 0 t : S1x56x128x27.Idx → EReal) (ix4 0 p q k)
    = (StableHlo.after before (start m c) (Proc.devRef .tc main_v14) : S16x56x128x27.Idx → EReal) (ix4 t p q k) := by
  generalize hU : StableHlo.after before (start m c) = U
  rw [iblk_eq m c t U hU]
  clear hU
  refine congrArg (U (Proc.devRef .tc main_v14)) ?_
  funext a
  fin_cases a <;> exact Fin.ext (by blk_simp [index_even]; rfl)

theorem block_odd (p : Fin 56) (q : Fin 128) (k : Fin 27) : (iblk m c 1 t : S1x56x128x27.Idx → EReal) (ix4 0 p q k)
    = (StableHlo.after before (start m c) (Proc.devRef .tc main_v15) : S16x56x128x27.Idx → EReal) (ix4 t p q k) := by
  generalize hU : StableHlo.after before (start m c) = U
  rw [iblk_eq m c t U hU]
  clear hU
  refine congrArg (U (Proc.devRef .tc main_v15)) ?_
  funext a
  fin_cases a <;> exact Fin.ext (by blk_simp [index_odd]; rfl)

theorem block_2 (i : S27x128.Idx) : (iblk m c 2 t : S27x128.Idx → EReal) i = (StableHlo.after before (start m c) (Proc.devRef .tc main_v20) : S27x128.Idx → EReal) i := by
  generalize hU : StableHlo.after before (start m c) = U
  rw [iblk_eq m c t U hU]
  clear hU
  refine congrArg (U (Proc.devRef .tc main_v20)) ?_
  funext a
  fin_cases a <;> exact Fin.ext (by blk_simp [index_2])

theorem block_3 (i : S1x128.Idx) : (iblk m c 3 t : S1x128.Idx → EReal) i = (StableHlo.after before (start m c) (Proc.devRef .tc main_v23) : S1x128.Idx → EReal) i := by
  generalize hU : StableHlo.after before (start m c) = U
  rw [iblk_eq m c t U hU]
  clear hU
  refine congrArg (U (Proc.devRef .tc main_v23)) ?_
  funext a
  fin_cases a <;> exact Fin.ext (by blk_simp [index_3])

theorem block_4 (i : S4x1536x256.Idx) : (iblk m c 4 t : S4x1536x256.Idx → EReal) i = (StableHlo.after before (start m c) (Proc.devRef .tc main_v37) : S4x1536x256.Idx → EReal) i := by
  generalize hU : StableHlo.after before (start m c) = U
  rw [iblk_eq m c t U hU]
  clear hU
  refine congrArg (U (Proc.devRef .tc main_v37)) ?_
  funext a
  fin_cases a <;> exact Fin.ext (by blk_simp [index_4])

theorem block_5 (i : S4x256.Idx) : (iblk m c 5 t : S4x256.Idx → EReal) i = (StableHlo.after before (start m c) (Proc.devRef .tc main_v42) : S4x256.Idx → EReal) i := by
  generalize hU : StableHlo.after before (start m c) = U
  rw [iblk_eq m c t U hU]
  clear hU
  refine congrArg (U (Proc.devRef .tc main_v42)) ?_
  funext a
  fin_cases a <;> exact Fin.ext (by blk_simp [index_5])

theorem block_6 (i : S4x128x128.Idx) : (iblk m c 6 t : S4x128x128.Idx → EReal) i = (StableHlo.after before (start m c) (Proc.devRef .tc main_v44) : S4x128x128.Idx → EReal) i := by
  generalize hU : StableHlo.after before (start m c) = U
  rw [iblk_eq m c t U hU]
  clear hU
  refine congrArg (U (Proc.devRef .tc main_v44)) ?_
  funext a
  fin_cases a <;> exact Fin.ext (by blk_simp [index_6])

theorem block_7 (i : S4x128.Idx) : (iblk m c 7 t : S4x128.Idx → EReal) i = (StableHlo.after before (start m c) (Proc.devRef .tc main_v45) : S4x128.Idx → EReal) i := by
  generalize hU : StableHlo.after before (start m c) = U
  rw [iblk_eq m c t U hU]
  clear hU
  refine congrArg (U (Proc.devRef .tc main_v45)) ?_
  funext a
  fin_cases a <;> exact Fin.ext (by blk_simp [index_7])

/-! ## One layer's part of a table -/

theorem wbOf_apply (x : Vec Ideal S4x1536x256 .bf16) (d : Fin 4) (r : Fin 1536) (o : Fin 256) :
    (wbOf x d : S1x1536x256.Idx → EReal) (ix3 0 r o) = (x : S4x1536x256.Idx → EReal) (ix3 d r o) := by
  fin_cases d <;> simp only [wbOf, Fin.isValue, Fin.zero_eta, Fin.mk_one, Fin.reduceFinMk, Matrix.cons_val] <;> pointwise

theorem bbOf_apply (x : Vec Ideal S4x256 .f32) (d : Fin 4) (o : Fin 256) :
    (bbOf x d : S1x256.Idx → EReal) (ix2 0 o) = (x : S4x256.Idx → EReal) (ix2 d o) := by
  fin_cases d <;> simp only [bbOf, Fin.isValue, Fin.zero_eta, Fin.mk_one, Fin.reduceFinMk, Matrix.cons_val] <;> pointwise

theorem cwOf_apply (x : Vec Ideal S4x128x128 .f32) (d : Fin 4) (k j : Fin 128) :
    (cwOf x d : S1x128x128.Idx → EReal) (ix3 0 k j) = (x : S4x128x128.Idx → EReal) (ix3 d k j) := by
  fin_cases d <;> simp only [cwOf, Fin.isValue, Fin.zero_eta, Fin.mk_one, Fin.reduceFinMk, Matrix.cons_val] <;> pointwise

theorem cbOf_apply (x : Vec Ideal S4x128 .f32) (d : Fin 4) (j : Fin 128) :
    (cbOf x d : S1x128.Idx → EReal) (ix2 0 j) = (x : S4x128.Idx → EReal) (ix2 d j) := by
  fin_cases d <;> simp only [cbOf, Fin.isValue, Fin.zero_eta, Fin.mk_one, Fin.reduceFinMk, Matrix.cons_val] <;> pointwise

/-! ## The network's parameters, out of the arguments -/

section

variable (V : Valuation τ sig (Elt Ideal))

/-- The weights of the first convolution, at scale 2. -/
abbrev netWi (ky kx ci : Fin 3) (o : Fin 128) : EReal := argWi V (ix5 2 o ci ky kx)
/-- Its biases. -/
abbrev netBi (o : Fin 128) : EReal := argBi V (ix2 2 o)
/-- The weights of layer `d`, at scale 2. -/
abbrev netW (d : Fin 4) (ky kx : Fin 3) (k o : Fin 128) : EReal := argW V (ix6 d 2 o k ky kx)
/-- Its biases. -/
abbrev netB (d : Fin 4) (o : Fin 128) : EReal := argB V (ix3 d 2 o)
/-- The weights of classifier `d`. -/
abbrev netWc (d : Fin 4) (k : Fin 128) (j : Fin 100) : EReal := argWc V (ix3 d j k)
/-- Its biases. -/
abbrev netBc (d : Fin 4) (j : Fin 100) : EReal := argBc V (ix2 d j)

/-- The features of image `b` after layer `d`. -/
abbrev featureOf (b : Fin 16) (d : Fin 4) : Img 128 := feature (first (image V b) (netWi V) (netBi V)) (netW V) (netB V) d

/-- The logits of image `b` at exit `d`. -/
abbrev logitOf (b : Fin 16) (d : Fin 4) : Fin 100 → EReal := logit (featureOf V b d) (netWc V d) (netBc V d)

end

theorem given : Blocks (iblk m c 0 t) (iblk m c 1 t) (iblk m c 2 t) (iblk m c 3 t) (iblk m c 4 t) (iblk m c 5 t) (iblk m c 6 t) (iblk m c 7 t)
    (image (start m c) t) (netWi (start m c)) (netBi (start m c)) (netW (start m c)) (netB (start m c)) (netWc (start m c)) (netBc (start m c)) where
  even p q ky kx ci := (block_even m c t ..).trans (v14_apply ..)
  odd p q ky kx ci := (block_odd m c t ..).trans (v15_apply ..)
  firstWeight ky kx ci o := (block_2 m c t _).trans (v20_apply ..)
  firstBias o := (block_3 m c t _).trans (v23_apply ..)
  weights d :=
    { even := fun ky kx k o => by
        rw [wbOf_apply, block_4]
        refine (v37_apply (start m c) d ⟨ky, by omega⟩ kx k ⟨o, by omega⟩).trans ?_
        rw [dif_pos (by exact o.isLt), dif_pos (by exact ky.isLt)]
      even_zero := fun kx k o => by
        rw [wbOf_apply, block_4]
        refine (v37_apply (start m c) d 3 kx k ⟨o, by omega⟩).trans ?_
        rw [dif_pos (by exact o.isLt), dif_neg (by decide)]
      odd := fun ky kx k o => by
        rw [wbOf_apply, block_4]
        refine (v37_apply (start m c) d ⟨ky + 1, by omega⟩ kx k ⟨128 + o, by omega⟩).trans ?_
        rw [dif_neg (by simp), dif_pos (by simp)]
        simp
      odd_zero := fun kx k o => by
        rw [wbOf_apply, block_4]
        have := v37_apply (start m c) d 0 kx k ⟨128 + o, by omega⟩
        simp only [Fin.val_zero, Nat.zero_mul, Nat.zero_add] at this
        refine this.trans ?_
        rw [dif_neg (by simp), dif_neg (by decide)] }
  biases d :=
    { even := fun o => by
        rw [bbOf_apply, block_5]
        have := v42_apply (start m c) d 0 o
        simp only [Fin.val_zero, Nat.zero_mul, Nat.zero_add] at this
        exact this
      odd := fun o => by
        rw [bbOf_apply, block_5]
        exact v42_apply (start m c) d 1 o }
  classes d :=
    { weight := fun k j => by
        rw [cwOf_apply, block_6, v44_apply, dif_pos (by exact j.isLt)]
      bias := fun j => by
        rw [cbOf_apply, block_7, v45_apply, dif_pos (by exact j.isLt)]
      weight_out := fun k j h => by
        rw [cwOf_apply, block_6, v44_apply, dif_neg (by omega)]
      bias_out := fun j h => by
        rw [cbOf_apply, block_7, v45_apply, dif_neg (by omega)] }

/-- The row that the body writes for image `t`. -/
theorem out_apply (j : Fin 100) : (outAt m c t : S1x1x128.Idx → EReal) (ix3 0 0 ⟨j, by omega⟩)
    = choose (fun d => sure (logitOf (start m c) t d)) (logitOf (start m c) t) j :=
  net_apply (given m c t) j

end Cert.Msd

end
-- ==== Proof.RefConv.lean ====
/-
  The reference's convolution, as the reference writes it: nine products of a shifted image and one tap's weights, added up.
-/
module

public import proofs.«01_k».proof.Proof.Math
public import proofs.«01_k».proof.Proof.Gen.ReferenceIdeal.Run

@[expose] public section

set_option maxRecDepth 16384

noncomputable section

namespace Cert.Msd.Ref

open Cert.ReferenceIdeal Cert.ReferenceIdeal.Gen Idealize.ShloMosaic Idealize.ShloMosaic.TcCoe Idealize.SL.Sem

/-- One tap of a layer's convolution. -/
def tap (dy dx : ℕ) (hp : S16x128x114x114.Slices ![0, 0, dy, dx] S16x128x112x112) (hw : S128x128x3x3.Slices ![0, 0, dy, dx] S128x128x1x1)
    (p : FVec Ideal S16x128x114x114 .f32) (w : FVec Ideal S128x128x3x3 .f32) : FVec Ideal S16x128x112x112 .f32 :=
  transpose S16x128x112x112 [0, 3, 1, 2] (Host.dotGeneral dot_S16x128x112x112_S128x128_S16x112x112x128_1_1_023_0_n_n none
    (extractStridedSlice S16x128x112x112 ![0, 0, dy, dx] p hp)
    (shapeCast _ (extractStridedSlice S128x128x1x1 ![0, 0, dy, dx] w hw) shapeCasts_S128x128x1x1_S128x128)) transposes_S16x112x112x128_S16x128x112x112_0_3_1_2

/-- One tap of the first convolution. -/
def tap3 (dy dx : ℕ) (hp : S16x3x114x114.Slices ![0, 0, dy, dx] S16x3x112x112) (hw : S128x3x3x3.Slices ![0, 0, dy, dx] S128x3x1x1)
    (p : FVec Ideal S16x3x114x114 .f32) (w : FVec Ideal S128x3x3x3 .f32) : FVec Ideal S16x128x112x112 .f32 :=
  transpose S16x128x112x112 [0, 3, 1, 2] (Host.dotGeneral dot_S16x3x112x112_S128x3_S16x112x112x128_1_1_023_0_n_n none
    (extractStridedSlice S16x3x112x112 ![0, 0, dy, dx] p hp)
    (shapeCast _ (extractStridedSlice S128x3x1x1 ![0, 0, dy, dx] w hw) shapeCasts_S128x3x1x1_S128x3)) transposes_S16x112x112x128_S16x128x112x112_0_3_1_2

theorem tap_apply (dy dx : Fin 3) (hp hw) (p : FVec Ideal S16x128x114x114 .f32) (w : FVec Ideal S128x128x3x3 .f32) (b : Fin 16) (o : Fin 128) (r c : Fin 112) :
    (tap dy dx hp hw p w : S16x128x112x112.Idx → EReal) (ix4 b o r c)
      = ∑ k : Fin 128, (p : S16x128x114x114.Idx → EReal) (ix4 b k ⟨dy + r, by omega⟩ ⟨dx + c, by omega⟩) * (w : S128x128x3x3.Idx → EReal) (ix4 o k dy dx) := by
  unfold tap
  pointwise

theorem tap3_apply (dy dx : Fin 3) (hp hw) (p : FVec Ideal S16x3x114x114 .f32) (w : FVec Ideal S128x3x3x3 .f32) (b : Fin 16) (o : Fin 128) (r c : Fin 112) :
    (tap3 dy dx hp hw p w : S16x128x112x112.Idx → EReal) (ix4 b o r c)
      = ∑ k : Fin 3, (p : S16x3x114x114.Idx → EReal) (ix4 b k ⟨dy + r, by omega⟩ ⟨dx + c, by omega⟩) * (w : S128x3x3x3.Idx → EReal) (ix4 o k dy dx) := by
  unfold tap3
  pointwise

/-- Nine taps, added up as the reference adds them, are the convolution. -/
theorem nine_taps {n : ℕ} (f : Img n) (w : Fin 3 → Fin 3 → Fin n → Fin 128 → EReal) (r c : Fin 112) (o : Fin 128) (t : Fin 3 → Fin 3 → EReal)
    (h : ∀ dy dx, t dy dx = ∑ k, padded f (r + dy) (c + dx) k * w dy dx k o) :
    0 + t 0 0 + t 0 1 + t 0 2 + t 1 0 + t 1 1 + t 1 2 + t 2 0 + t 2 1 + t 2 2 = conv f w r c o := by
  unfold conv
  simp only [Fin.sum_univ_three, h, zero_add, add_assoc]

/-- A layer's convolution. -/
def convOf (p : FVec Ideal S16x128x114x114 .f32) (w : FVec Ideal S128x128x3x3 .f32) : FVec Ideal S16x128x112x112 .f32 :=
  addf (addf (addf (addf (addf (addf (addf (addf (addf (broadcastInDim S16x128x112x112 ![] bcast_S_S16x128x112x112 (constant S_ .f32 0x00000000#32))
    (tap 0 0 slices_S16x128x114x114_S16x128x112x112_0_0_0_0 slices_S128x128x3x3_S128x128x1x1_0_0_0_0 p w))
    (tap 0 1 slices_S16x128x114x114_S16x128x112x112_0_0_0_1 slices_S128x128x3x3_S128x128x1x1_0_0_0_1 p w))
    (tap 0 2 slices_S16x128x114x114_S16x128x112x112_0_0_0_2 slices_S128x128x3x3_S128x128x1x1_0_0_0_2 p w))
    (tap 1 0 slices_S16x128x114x114_S16x128x112x112_0_0_1_0 slices_S128x128x3x3_S128x128x1x1_0_0_1_0 p w))
    (tap 1 1 slices_S16x128x114x114_S16x128x112x112_0_0_1_1 slices_S128x128x3x3_S128x128x1x1_0_0_1_1 p w))
    (tap 1 2 slices_S16x128x114x114_S16x128x112x112_0_0_1_2 slices_S128x128x3x3_S128x128x1x1_0_0_1_2 p w))
    (tap 2 0 slices_S16x128x114x114_S16x128x112x112_0_0_2_0 slices_S128x128x3x3_S128x128x1x1_0_0_2_0 p w))
    (tap 2 1 slices_S16x128x114x114_S16x128x112x112_0_0_2_1 slices_S128x128x3x3_S128x128x1x1_0_0_2_1 p w))
    (tap 2 2 slices_S16x128x114x114_S16x128x112x112_0_0_2_2 slices_S128x128x3x3_S128x128x1x1_0_0_2_2 p w)

/-- The first convolution. -/
def convOf3 (p : FVec Ideal S16x3x114x114 .f32) (w : FVec Ideal S128x3x3x3 .f32) : FVec Ideal S16x128x112x112 .f32 :=
  addf (addf (addf (addf (addf (addf (addf (addf (addf (broadcastInDim S16x128x112x112 ![] bcast_S_S16x128x112x112 (constant S_ .f32 0x00000000#32))
    (tap3 0 0 slices_S16x3x114x114_S16x3x112x112_0_0_0_0 slices_S128x3x3x3_S128x3x1x1_0_0_0_0 p w))
    (tap3 0 1 slices_S16x3x114x114_S16x3x112x112_0_0_0_1 slices_S128x3x3x3_S128x3x1x1_0_0_0_1 p w))
    (tap3 0 2 slices_S16x3x114x114_S16x3x112x112_0_0_0_2 slices_S128x3x3x3_S128x3x1x1_0_0_0_2 p w))
    (tap3 1 0 slices_S16x3x114x114_S16x3x112x112_0_0_1_0 slices_S128x3x3x3_S128x3x1x1_0_0_1_0 p w))
    (tap3 1 1 slices_S16x3x114x114_S16x3x112x112_0_0_1_1 slices_S128x3x3x3_S128x3x1x1_0_0_1_1 p w))
    (tap3 1 2 slices_S16x3x114x114_S16x3x112x112_0_0_1_2 slices_S128x3x3x3_S128x3x1x1_0_0_1_2 p w))
    (tap3 2 0 slices_S16x3x114x114_S16x3x112x112_0_0_2_0 slices_S128x3x3x3_S128x3x1x1_0_0_2_0 p w))
    (tap3 2 1 slices_S16x3x114x114_S16x3x112x112_0_0_2_1 slices_S128x3x3x3_S128x3x1x1_0_0_2_1 p w))
    (tap3 2 2 slices_S16x3x114x114_S16x3x112x112_0_0_2_2 slices_S128x3x3x3_S128x3x1x1_0_0_2_2 p w)

/-- `p` holds the image `f` of sample `b`, with its border. -/
abbrev Bordered {n : ℕ} (f : Img n) (p : Fin n → Fin 114 → Fin 114 → EReal) : Prop := ∀ k r c, p k r c = padded f r c k

theorem convOf_apply {p : FVec Ideal S16x128x114x114 .f32} {b : Fin 16} {f : Img 128}
    (hp : Bordered f fun k r c => (p : S16x128x114x114.Idx → EReal) (ix4 b k r c)) (w : FVec Ideal S128x128x3x3 .f32) (o : Fin 128) (r c : Fin 112) :
    (convOf p w : S16x128x112x112.Idx → EReal) (ix4 b o r c) = conv f (fun ky kx k o => (w : S128x128x3x3.Idx → EReal) (ix4 o k ky kx)) r c o := by
  have zero : (broadcastInDim S16x128x112x112 ![] bcast_S_S16x128x112x112 (constant (F := Ideal) S_ .f32 0x00000000#32) : S16x128x112x112.Idx → EReal) (ix4 b o r c) = 0 := by
    pointwise
  have t := fun (dy dx : Fin 3) hp hw => tap_apply dy dx hp hw p w b o r c
  refine Eq.trans ?_ (nine_taps f (fun ky kx k o => (w : S128x128x3x3.Idx → EReal) (ix4 o k ky kx)) r c o
    (fun dy dx => ∑ k : Fin 128, (p : S16x128x114x114.Idx → EReal) (ix4 b k ⟨dy + r, by omega⟩ ⟨dx + c, by omega⟩) * (w : S128x128x3x3.Idx → EReal) (ix4 o k dy dx))
    fun dy dx => Finset.sum_congr rfl fun k _ => congrArg (· * _) ((hp k _ _).trans (by rw [Nat.add_comm r.val, Nat.add_comm c.val])))
  rw [← zero, ← t 0 0 slices_S16x128x114x114_S16x128x112x112_0_0_0_0 slices_S128x128x3x3_S128x128x1x1_0_0_0_0,
    ← t 0 1 slices_S16x128x114x114_S16x128x112x112_0_0_0_1 slices_S128x128x3x3_S128x128x1x1_0_0_0_1,
    ← t 0 2 slices_S16x128x114x114_S16x128x112x112_0_0_0_2 slices_S128x128x3x3_S128x128x1x1_0_0_0_2,
    ← t 1 0 slices_S16x128x114x114_S16x128x112x112_0_0_1_0 slices_S128x128x3x3_S128x128x1x1_0_0_1_0,
    ← t 1 1 slices_S16x128x114x114_S16x128x112x112_0_0_1_1 slices_S128x128x3x3_S128x128x1x1_0_0_1_1,
    ← t 1 2 slices_S16x128x114x114_S16x128x112x112_0_0_1_2 slices_S128x128x3x3_S128x128x1x1_0_0_1_2,
    ← t 2 0 slices_S16x128x114x114_S16x128x112x112_0_0_2_0 slices_S128x128x3x3_S128x128x1x1_0_0_2_0,
    ← t 2 1 slices_S16x128x114x114_S16x128x112x112_0_0_2_1 slices_S128x128x3x3_S128x128x1x1_0_0_2_1,
    ← t 2 2 slices_S16x128x114x114_S16x128x112x112_0_0_2_2 slices_S128x128x3x3_S128x128x1x1_0_0_2_2]
  rfl

theorem convOf3_apply {p : FVec Ideal S16x3x114x114 .f32} {b : Fin 16} {f : Img 3}
    (hp : Bordered f fun k r c => (p : S16x3x114x114.Idx → EReal) (ix4 b k r c)) (w : FVec Ideal S128x3x3x3 .f32) (o : Fin 128) (r c : Fin 112) :
    (convOf3 p w : S16x128x112x112.Idx → EReal) (ix4 b o r c) = conv f (fun ky kx k o => (w : S128x3x3x3.Idx → EReal) (ix4 o k ky kx)) r c o := by
  have zero : (broadcastInDim S16x128x112x112 ![] bcast_S_S16x128x112x112 (constant (F := Ideal) S_ .f32 0x00000000#32) : S16x128x112x112.Idx → EReal) (ix4 b o r c) = 0 := by
    pointwise
  have t := fun (dy dx : Fin 3) hp hw => tap3_apply dy dx hp hw p w b o r c
  refine Eq.trans ?_ (nine_taps f (fun ky kx k o => (w : S128x3x3x3.Idx → EReal) (ix4 o k ky kx)) r c o
    (fun dy dx => ∑ k : Fin 3, (p : S16x3x114x114.Idx → EReal) (ix4 b k ⟨dy + r, by omega⟩ ⟨dx + c, by omega⟩) * (w : S128x3x3x3.Idx → EReal) (ix4 o k dy dx))
    fun dy dx => Finset.sum_congr rfl fun k _ => congrArg (· * _) ((hp k _ _).trans (by rw [Nat.add_comm r.val, Nat.add_comm c.val])))
  rw [← zero, ← t 0 0 slices_S16x3x114x114_S16x3x112x112_0_0_0_0 slices_S128x3x3x3_S128x3x1x1_0_0_0_0,
    ← t 0 1 slices_S16x3x114x114_S16x3x112x112_0_0_0_1 slices_S128x3x3x3_S128x3x1x1_0_0_0_1,
    ← t 0 2 slices_S16x3x114x114_S16x3x112x112_0_0_0_2 slices_S128x3x3x3_S128x3x1x1_0_0_0_2,
    ← t 1 0 slices_S16x3x114x114_S16x3x112x112_0_0_1_0 slices_S128x3x3x3_S128x3x1x1_0_0_1_0,
    ← t 1 1 slices_S16x3x114x114_S16x3x112x112_0_0_1_1 slices_S128x3x3x3_S128x3x1x1_0_0_1_1,
    ← t 1 2 slices_S16x3x114x114_S16x3x112x112_0_0_1_2 slices_S128x3x3x3_S128x3x1x1_0_0_1_2,
    ← t 2 0 slices_S16x3x114x114_S16x3x112x112_0_0_2_0 slices_S128x3x3x3_S128x3x1x1_0_0_2_0,
    ← t 2 1 slices_S16x3x114x114_S16x3x112x112_0_0_2_1 slices_S128x3x3x3_S128x3x1x1_0_0_2_1,
    ← t 2 2 slices_S16x3x114x114_S16x3x112x112_0_0_2_2 slices_S128x3x3x3_S128x3x1x1_0_0_2_2]
  rfl

end Cert.Msd.Ref

end
-- ==== Proof.RefLayer.lean ====
/-
  The reference's other steps, each as the reference writes it and as the mathematics it is: the border, a layer, the logits, the
  confidence.
-/
module

public import proofs.«01_k».proof.Proof.RefConv

@[expose] public section

set_option maxRecDepth 16384

noncomputable section

namespace Cert.Msd.Ref

open Cert.ReferenceIdeal Cert.ReferenceIdeal.Gen Idealize.ShloMosaic Idealize.ShloMosaic.TcCoe Idealize.SL.Sem

/-- The border around a layer's features. -/
def padOf (x : FVec Ideal S16x128x112x112 .f32) : FVec Ideal S16x128x114x114 .f32 :=
  pad S16x128x114x114 ![0, 0, 1, 1] ![0, 0, 1, 1] ![0, 0, 0, 0] x (sitofp .f32 (constantI S_ 32 0#32)) pads_S16x128x112x112_S16x128x114x114_000_000_110_110 h_S_

/-- The border around the images. -/
def padOf3 (x : FVec Ideal S16x3x112x112 .f32) : FVec Ideal S16x3x114x114 .f32 :=
  pad S16x3x114x114 ![0, 0, 1, 1] ![0, 0, 1, 1] ![0, 0, 0, 0] x (sitofp .f32 (constantI S_ 32 0#32)) pads_S16x3x112x112_S16x3x114x114_000_000_110_110 h_S_

/-- A bias for each channel. -/
def biasOf (v : FVec Ideal S128 .f32) : FVec Ideal S16x128x112x112 .f32 :=
  broadcastInDim S16x128x112x112 ![0, 1, 2, 3] bcast_S1x128x1x1_S16x128x112x112_0_1_2_3 (broadcastInDim S1x128x1x1 ![1] bcast_S128_S1x128x1x1_1 v)

/-- A layer. -/
def layerOf (p : FVec Ideal S16x128x114x114 .f32) (w : FVec Ideal S128x128x3x3 .f32) (v : FVec Ideal S128 .f32) : FVec Ideal S16x128x112x112 .f32 :=
  maximumf (addf (convOf p w) (biasOf v)) (broadcastInDim S16x128x112x112 ![] bcast_S_S16x128x112x112 (constant S_ .f32 0x00000000#32))

/-- The logits of a layer's features. -/
def logitsOf (x : FVec Ideal S16x128x112x112 .f32) (w : FVec Ideal S100x128 .f32) (v : FVec Ideal S100 .f32) : FVec Ideal S16x100 .f32 :=
  addf (Host.dotGeneral dot_S16x128_S128x100_S16x100_1_0_0_1_n_n none
      (Host.divf (Host.reduceAdd x (constant S_ .f32 0x00000000#32) reducesTo_S16x128x112x112_S16x128_d2_3 h_S_)
        (broadcastInDim S16x128 ![] bcast_S_S16x128 (constant S_ .f32 0x46440000#32)))
      (transpose S128x100 [1, 0] w transposes_S100x128_S128x100_1_0))
    (broadcastInDim S16x100 ![0, 1] bcast_S1x100_S16x100_0_1 (broadcastInDim S1x100 ![1] bcast_S100_S1x100_1 v))

/-- The exponentials of the logits, less the largest of them. -/
def expsOf (l : FVec Ideal S16x100 .f32) : FVec Ideal S16x100 .f32 :=
  Host.exp (subf l (broadcastInDim S16x100 ![0, 1] bcast_S16x1_S16x100_0_1 (broadcastInDim S16x1 ![0] bcast_S16_S16x1_0
    (maximumf (broadcastInDim S16 ![] bcast_S_S16 (constant S_ .f32 0xFF800000#32))
      (Host.reduce FloatOps.maximumf l (constant S_ .f32 0xFF800000#32) reducesTo_S16x100_S16_d1 h_S_)))))

/-- The largest entry of the softmax. -/
def confOf (l : FVec Ideal S16x100 .f32) : FVec Ideal S16 .f32 :=
  Host.reduce FloatOps.maximumf (Host.divf (expsOf l) (broadcastInDim S16x100 ![0, 1] bcast_S16x1_S16x100_0_1 (broadcastInDim S16x1 ![0] bcast_S16_S16x1_0
    (Host.reduceAdd (expsOf l) (constant S_ .f32 0x00000000#32) reducesTo_S16x100_S16_d1 h_S_)))) (constant S_ .f32 0xFF800000#32) reducesTo_S16x100_S16_d1 h_S_

/-- Whether the confidence reaches the threshold. -/
def reachOf (l : FVec Ideal S16x100 .f32) : IVec S16 1 :=
  cmpf .oge (confOf l) (broadcastInDim S16 ![] bcast_S_S16 (constant S_ .f32 0x3F666666#32))

/-- The samples that have left: none at first. -/
def none : IVec S16 1 := broadcastInDim S16 ![] bcast_S_S16 (constantI S_ 1 0#1)

/-- The logits of the samples of `e`, over those of the others. -/
def pick (e : IVec S16 1) (l r : FVec Ideal S16x100 .f32) : FVec Ideal S16x100 .f32 :=
  select (broadcastInDim S16x100 ![0, 1] bcast_S16x1_S16x100_0_1 (broadcastInDim S16x1 ![0] bcast_S16_S16x1_0 e)) l r

/-- The early exits, as the reference writes them: `c d` says which samples are confident at exit `d`; a sample leaves once. -/
def exitsOf (c : Fin 4 → IVec S16 1) (l : Fin 4 → FVec Ideal S16x100 .f32) : FVec Ideal S16x100 .f32 :=
  let e0 := andi (noti none) (c 0)
  let d0 := ori none e0
  let e1 := andi (noti d0) (c 1)
  let d1 := ori d0 e1
  let e2 := andi (noti d1) (c 2)
  let d2 := ori d1 e2
  let e3 := andi (noti d2) (c 3)
  pick (ori d2 e3) (pick e3 (l 3) (pick e2 (l 2) (pick e1 (l 1) (pick e0 (l 0)
    (broadcastInDim S16x100 ![] bcast_S_S16x100 (constant S_ .f32 0x00000000#32)))))) (l 3)

theorem border : (FloatOps.sitofp (F := Ideal) FTy.f32 0#32 : EReal) = 0 := by
  change ((((0#32 : BitVec 32).toInt : ℤ) : ℝ) : EReal) = 0
  simp

theorem padOf_apply (x : FVec Ideal S16x128x112x112 .f32) (b : Fin 16) :
    Bordered (fun r c k => (x : S16x128x112x112.Idx → EReal) (ix4 b k r c)) fun k r c => (padOf x : S16x128x114x114.Idx → EReal) (ix4 b k r c) := by
  intro k r c
  unfold padOf padded
  pointwise
  split_ifs <;> first | rfl | omega | exact border

theorem padOf3_apply (x : FVec Ideal S16x3x112x112 .f32) (b : Fin 16) :
    Bordered (fun r c k => (x : S16x3x112x112.Idx → EReal) (ix4 b k r c)) fun k r c => (padOf3 x : S16x3x114x114.Idx → EReal) (ix4 b k r c) := by
  intro k r c
  unfold padOf3 padded
  pointwise
  split_ifs <;> first | rfl | omega | exact border

theorem biasOf_apply (v : FVec Ideal S128 .f32) (b : Fin 16) (o : Fin 128) (r c : Fin 112) :
    (biasOf v : S16x128x112x112.Idx → EReal) (ix4 b o r c) = (v : S128.Idx → EReal) (ix1 o) := by
  unfold biasOf
  pointwise

theorem layerOf_apply {p : FVec Ideal S16x128x114x114 .f32} {b : Fin 16} {f : Img 128}
    (hp : Bordered f fun k r c => (p : S16x128x114x114.Idx → EReal) (ix4 b k r c)) (w : FVec Ideal S128x128x3x3 .f32) (v : FVec Ideal S128 .f32)
    (o : Fin 128) (r c : Fin 112) :
    (layerOf p w v : S16x128x112x112.Idx → EReal) (ix4 b o r c)
      = layer f (fun ky kx k o => (w : S128x128x3x3.Idx → EReal) (ix4 o k ky kx)) (fun o => (v : S128.Idx → EReal) (ix1 o)) r c o := by
  unfold layerOf layer
  pointwise
  rw [convOf_apply hp, biasOf_apply]

theorem bits_bot : Ideal.ofBits .f32 0xFF800000#32 = ⊥ := by simp [Ideal.ofBits, Ideal.ieee]

theorem bits_pixels : Ideal.ofBits .f32 0x46440000#32 = ((12544 : ℝ) : EReal) := by
  simp [Ideal.ofBits, Ideal.ieee]
  norm_num
  rw [← EReal.coe_mul]
  norm_num

theorem div_pixels (x : EReal) : Ideal.div x (Ideal.ofBits .f32 0x46440000#32) = x * ((12544⁻¹ : ℝ) : EReal) := by
  rw [bits_pixels, Ideal.div_coe (by norm_num), one_div]

theorem logitsOf_apply (x : FVec Ideal S16x128x112x112 .f32) (w : FVec Ideal S100x128 .f32) (v : FVec Ideal S100 .f32) (b : Fin 16) (j : Fin 100) :
    (logitsOf x w v : S16x100.Idx → EReal) (ix2 b j)
      = logit (fun r c k => (x : S16x128x112x112.Idx → EReal) (ix4 b k r c)) (fun k j => (w : S100x128.Idx → EReal) (ix2 j k))
          (fun j => (v : S100.Idx → EReal) (ix1 j)) j := by
  unfold logitsOf logit mean
  pointwise
  simp only [div_pixels]

theorem expsOf_apply (l : FVec Ideal S16x100 .f32) (b : Fin 16) (j : Fin 100) :
    (expsOf l : S16x100.Idx → EReal) (ix2 b j)
      = Ideal.exp ((l : S16x100.Idx → EReal) (ix2 b j) - top fun j => (l : S16x100.Idx → EReal) (ix2 b j)) := by
  unfold expsOf top
  pointwise
  rw [bits_bot, max_eq_right bot_le]

theorem confOf_apply (l : FVec Ideal S16x100 .f32) (b : Fin 16) :
    (confOf l : S16.Idx → EReal) (ix1 b) = confidence fun j => (l : S16x100.Idx → EReal) (ix2 b j) := by
  unfold confOf confidence total
  pointwise
  simp only [bits_bot, expsOf_apply]

theorem reachOf_apply (l : FVec Ideal S16x100 .f32) (b : Fin 16) :
    reachOf l (ix1 b) = if threshold ≤ confidence (fun j => (l : S16x100.Idx → EReal) (ix2 b j)) then 1#1 else 0#1 := by
  unfold reachOf threshold
  pointwise
  rw [confOf_apply]
  split_ifs with h <;> simp [h]

theorem pick_apply (e : IVec S16 1) (l r : FVec Ideal S16x100 .f32) (b : Fin 16) (j : Fin 100) :
    (pick e l r : S16x100.Idx → EReal) (ix2 b j) = if e (ix1 b) = 1#1 then (l : S16x100.Idx → EReal) (ix2 b j) else (r : S16x100.Idx → EReal) (ix2 b j) := by
  unfold pick
  pointwise
  rfl

theorem exitsOf_apply (c : Fin 4 → IVec S16 1) (l : Fin 4 → FVec Ideal S16x100 .f32) (b : Fin 16) (j : Fin 100) :
    (exitsOf c l : S16x100.Idx → EReal) (ix2 b j)
      = if c 0 (ix1 b) = 1#1 then (l 0 : S16x100.Idx → EReal) (ix2 b j) else if c 1 (ix1 b) = 1#1 then (l 1 : S16x100.Idx → EReal) (ix2 b j)
        else if c 2 (ix1 b) = 1#1 then (l 2 : S16x100.Idx → EReal) (ix2 b j) else (l 3 : S16x100.Idx → EReal) (ix2 b j) := by
  have bit : ∀ x : BitVec 1, x = 0#1 ∨ x = 1#1 := by decide
  unfold exitsOf none
  simp only [pick_apply]
  pointwise
  generalize c 0 (ix1 b) = c0, c 1 (ix1 b) = c1, c 2 (ix1 b) = c2, c 3 (ix1 b) = c3
  rcases bit c0 with rfl | rfl <;> rcases bit c1 with rfl | rfl <;> rcases bit c2 with rfl | rfl <;> rcases bit c3 with rfl | rfl <;>
    simp [IntOp.andi, IntOp.ori]

end Cert.Msd.Ref

end
-- ==== Proof.RefValue.lean ====
/-
  The reference's result: at sample `b` it is the logits of the first exit that is confident.
-/
module

public import proofs.«01_k».proof.Proof.RefLayer

@[expose] public section

set_option maxRecDepth 16384

noncomputable section

namespace Cert.Msd.Ref

open Cert.ReferenceIdeal Cert.ReferenceIdeal.Gen Cert.ReferenceIdeal.Value Idealize.ShloMosaic Idealize.ShloMosaic.TcCoe Idealize.SL.Sem

variable (V : Valuation τ sig (Elt Ideal))

/-- The images. -/
abbrev argX : S16x3x112x112.Idx → EReal := V (Proc.devRef .tc main_arg0)
/-- The weights of the first convolution, one set per scale. -/
abbrev argWi : S3x128x3x3x3.Idx → EReal := V (Proc.devRef .tc main_arg1)
/-- Its biases. -/
abbrev argBi : S3x128.Idx → EReal := V (Proc.devRef .tc main_arg2)
/-- The weights of the four layers, one set per scale. -/
abbrev argW : S4x3x128x128x3x3.Idx → EReal := V (Proc.devRef .tc main_arg3)
/-- Their biases. -/
abbrev argB : S4x3x128.Idx → EReal := V (Proc.devRef .tc main_arg4)
/-- The weights of the four classifiers. -/
abbrev argWc : S4x100x128.Idx → EReal := V (Proc.devRef .tc main_arg5)
/-- Their biases. -/
abbrev argBc : S4x100.Idx → EReal := V (Proc.devRef .tc main_arg6)

/-- Image `b`, the channel last. -/
abbrev image (b : Fin 16) : Img 3 := fun r c ci => argX V (ix4 b ci r c)
/-- The weights of the first convolution, at scale 2. -/
abbrev netWi (ky kx ci : Fin 3) (o : Fin 128) : EReal := argWi V (ix5 2 o ci ky kx)
/-- Its biases. -/
abbrev netBi (o : Fin 128) : EReal := argBi V (ix2 2 o)
/-- The weights of layer `d`, at scale 2. -/
abbrev netW (d : Fin 4) (ky kx : Fin 3) (k o : Fin 128) : EReal := argW V (ix6 d 2 o k ky kx)
/-- Its biases. -/
abbrev netB (d : Fin 4) (o : Fin 128) : EReal := argB V (ix3 d 2 o)
/-- The weights of classifier `d`. -/
abbrev netWc (d : Fin 4) (k : Fin 128) (j : Fin 100) : EReal := argWc V (ix3 d j k)
/-- Its biases. -/
abbrev netBc (d : Fin 4) (j : Fin 100) : EReal := argBc V (ix2 d j)

/-- The features of image `b` after layer `d`. -/
abbrev featureOf (b : Fin 16) (d : Fin 4) : Img 128 := feature (first (image V b) (netWi V) (netBi V)) (netW V) (netB V) d

/-- The logits of image `b` at exit `d`. -/
abbrev logitOf (b : Fin 16) (d : Fin 4) : Fin 100 → EReal := logit (featureOf V b d) (netWc V d) (netBc V d)

/-- `x` holds the features `f` of sample `b`. -/
abbrev Holds (x : FVec Ideal S16x128x112x112 .f32) (b : Fin 16) (f : Img 128) : Prop :=
  (fun r c k => (x : S16x128x112x112.Idx → EReal) (ix4 b k r c)) = f

/-! ## The steps by their names -/

/-- The weights of the first convolution. -/
def firstWeight : FVec Ideal S128x3x3x3 .f32 :=
  shapeCast _ (extractStridedSlice S1x128x3x3x3 ![2, 0, 0, 0, 0] (V (Proc.devRef .tc main_arg1)) slices_S3x128x3x3x3_S1x128x3x3x3_2_0_0_0_0) shapeCasts_S1x128x3x3x3_S128x3x3x3

/-- The biases of the first convolution. -/
def firstBias : FVec Ideal S128 .f32 :=
  shapeCast _ (extractStridedSlice S1x128 ![2, 0] (V (Proc.devRef .tc main_arg2)) slices_S3x128_S1x128_2_0) shapeCasts_S1x128_S128

/-- The features before the first layer. -/
def firstOf : FVec Ideal S16x128x112x112 .f32 := addf (convOf3 (padOf3 (argX V)) (firstWeight V)) (biasOf (firstBias V))

/-- The weights of layer 0. -/
def weight0 : FVec Ideal S128x128x3x3 .f32 :=
  shapeCast _ (extractStridedSlice S1x1x128x128x3x3 ![0, 2, 0, 0, 0, 0] (V (Proc.devRef .tc main_arg3)) slices_S4x3x128x128x3x3_S1x1x128x128x3x3_0_2_0_0_0_0) shapeCasts_S1x1x128x128x3x3_S128x128x3x3

/-- The biases of layer 0. -/
def bias0 : FVec Ideal S128 .f32 :=
  shapeCast _ (extractStridedSlice S1x1x128 ![0, 2, 0] (V (Proc.devRef .tc main_arg4)) slices_S4x3x128_S1x1x128_0_2_0) shapeCasts_S1x1x128_S128

/-- The weights of classifier 0. -/
def cls0 : FVec Ideal S100x128 .f32 :=
  shapeCast _ (extractStridedSlice S1x100x128 ![0, 0, 0] (V (Proc.devRef .tc main_arg5)) slices_S4x100x128_S1x100x128_0_0_0) shapeCasts_S1x100x128_S100x128

/-- Its biases. -/
def off0 : FVec Ideal S100 .f32 :=
  shapeCast _ (extractStridedSlice S1x100 ![0, 0] (V (Proc.devRef .tc main_arg6)) slices_S4x100_S1x100_0_0) shapeCasts_S1x100_S100

/-- The weights of layer 1. -/
def weight1 : FVec Ideal S128x128x3x3 .f32 :=
  shapeCast _ (extractStridedSlice S1x1x128x128x3x3 ![1, 2, 0, 0, 0, 0] (V (Proc.devRef .tc main_arg3)) slices_S4x3x128x128x3x3_S1x1x128x128x3x3_1_2_0_0_0_0) shapeCasts_S1x1x128x128x3x3_S128x128x3x3

/-- The biases of layer 1. -/
def bias1 : FVec Ideal S128 .f32 :=
  shapeCast _ (extractStridedSlice S1x1x128 ![1, 2, 0] (V (Proc.devRef .tc main_arg4)) slices_S4x3x128_S1x1x128_1_2_0) shapeCasts_S1x1x128_S128

/-- The weights of classifier 1. -/
def cls1 : FVec Ideal S100x128 .f32 :=
  shapeCast _ (extractStridedSlice S1x100x128 ![1, 0, 0] (V (Proc.devRef .tc main_arg5)) slices_S4x100x128_S1x100x128_1_0_0) shapeCasts_S1x100x128_S100x128

/-- Its biases. -/
def off1 : FVec Ideal S100 .f32 :=
  shapeCast _ (extractStridedSlice S1x100 ![1, 0] (V (Proc.devRef .tc main_arg6)) slices_S4x100_S1x100_1_0) shapeCasts_S1x100_S100

/-- The weights of layer 2. -/
def weight2 : FVec Ideal S128x128x3x3 .f32 :=
  shapeCast _ (extractStridedSlice S1x1x128x128x3x3 ![2, 2, 0, 0, 0, 0] (V (Proc.devRef .tc main_arg3)) slices_S4x3x128x128x3x3_S1x1x128x128x3x3_2_2_0_0_0_0) shapeCasts_S1x1x128x128x3x3_S128x128x3x3

/-- The biases of layer 2. -/
def bias2 : FVec Ideal S128 .f32 :=
  shapeCast _ (extractStridedSlice S1x1x128 ![2, 2, 0] (V (Proc.devRef .tc main_arg4)) slices_S4x3x128_S1x1x128_2_2_0) shapeCasts_S1x1x128_S128

/-- The weights of classifier 2. -/
def cls2 : FVec Ideal S100x128 .f32 :=
  shapeCast _ (extractStridedSlice S1x100x128 ![2, 0, 0] (V (Proc.devRef .tc main_arg5)) slices_S4x100x128_S1x100x128_2_0_0) shapeCasts_S1x100x128_S100x128

/-- Its biases. -/
def off2 : FVec Ideal S100 .f32 :=
  shapeCast _ (extractStridedSlice S1x100 ![2, 0] (V (Proc.devRef .tc main_arg6)) slices_S4x100_S1x100_2_0) shapeCasts_S1x100_S100

/-- The weights of layer 3. -/
def weight3 : FVec Ideal S128x128x3x3 .f32 :=
  shapeCast _ (extractStridedSlice S1x1x128x128x3x3 ![3, 2, 0, 0, 0, 0] (V (Proc.devRef .tc main_arg3)) slices_S4x3x128x128x3x3_S1x1x128x128x3x3_3_2_0_0_0_0) shapeCasts_S1x1x128x128x3x3_S128x128x3x3

/-- The biases of layer 3. -/
def bias3 : FVec Ideal S128 .f32 :=
  shapeCast _ (extractStridedSlice S1x1x128 ![3, 2, 0] (V (Proc.devRef .tc main_arg4)) slices_S4x3x128_S1x1x128_3_2_0) shapeCasts_S1x1x128_S128

/-- The weights of classifier 3. -/
def cls3 : FVec Ideal S100x128 .f32 :=
  shapeCast _ (extractStridedSlice S1x100x128 ![3, 0, 0] (V (Proc.devRef .tc main_arg5)) slices_S4x100x128_S1x100x128_3_0_0) shapeCasts_S1x100x128_S100x128

/-- Its biases. -/
def off3 : FVec Ideal S100 .f32 :=
  shapeCast _ (extractStridedSlice S1x100 ![3, 0] (V (Proc.devRef .tc main_arg6)) slices_S4x100_S1x100_3_0) shapeCasts_S1x100_S100

theorem v323_eq : res_main_v323 V = padOf (firstOf V) := rfl
theorem v382_eq : res_main_v382 V = layerOf (res_main_v323 V) (weight0 V) (bias0 V) := rfl
theorem v394_eq : res_main_v394 V = logitsOf (res_main_v382 V) (cls0 V) (off0 V) := rfl
theorem v546_eq : res_main_v546 V = padOf (res_main_v382 V) := rfl
theorem v605_eq : res_main_v605 V = layerOf (res_main_v546 V) (weight1 V) (bias1 V) := rfl
theorem v617_eq : res_main_v617 V = logitsOf (res_main_v605 V) (cls1 V) (off1 V) := rfl
theorem v769_eq : res_main_v769 V = padOf (res_main_v605 V) := rfl
theorem v828_eq : res_main_v828 V = layerOf (res_main_v769 V) (weight2 V) (bias2 V) := rfl
theorem v840_eq : res_main_v840 V = logitsOf (res_main_v828 V) (cls2 V) (off2 V) := rfl
theorem v992_eq : res_main_v992 V = padOf (res_main_v828 V) := rfl
theorem v1051_eq : res_main_v1051 V = layerOf (res_main_v992 V) (weight3 V) (bias3 V) := rfl
theorem v1063_eq : res_main_v1063 V = logitsOf (res_main_v1051 V) (cls3 V) (off3 V) := rfl

/-! ## The features -/

theorem image_bordered (b : Fin 16) : Bordered (image V b) fun k r c => (padOf3 (argX V) : S16x3x114x114.Idx → EReal) (ix4 b k r c) :=
  padOf3_apply (argX V) b

theorem firstWeight_apply (ky kx ci : Fin 3) (o : Fin 128) : (firstWeight V : S128x3x3x3.Idx → EReal) (ix4 o ci ky kx) = netWi V ky kx ci o := by
  unfold firstWeight
  pointwise

theorem firstBias_apply (o : Fin 128) : (firstBias V : S128.Idx → EReal) (ix1 o) = netBi V o := by
  unfold firstBias
  pointwise

theorem first_holds (b : Fin 16) : Holds (firstOf V) b (first (image V b) (netWi V) (netBi V)) := by
  funext r c o
  unfold firstOf first
  pointwise
  rw [convOf3_apply (image_bordered V b), biasOf_apply, firstBias_apply]
  simp only [firstWeight_apply]

theorem bordered_of {x : FVec Ideal S16x128x112x112 .f32} {b : Fin 16} {f : Img 128} (h : Holds x b f) :
    Bordered f fun k r c => (padOf x : S16x128x114x114.Idx → EReal) (ix4 b k r c) := by
  subst h
  exact padOf_apply x b

theorem layer_holds {x : FVec Ideal S16x128x112x112 .f32} {b : Fin 16} {f : Img 128} (h : Holds x b f) (w : FVec Ideal S128x128x3x3 .f32) (v : FVec Ideal S128 .f32)
    (W : Fin 3 → Fin 3 → Fin 128 → Fin 128 → EReal) (B : Fin 128 → EReal) (hw : ∀ ky kx k o, (w : S128x128x3x3.Idx → EReal) (ix4 o k ky kx) = W ky kx k o)
    (hv : ∀ o, (v : S128.Idx → EReal) (ix1 o) = B o) : Holds (layerOf (padOf x) w v) b (layer f W B) := by
  funext r c o
  refine (layerOf_apply (bordered_of h) w v o r c).trans ?_
  simp only [hw, hv]

theorem weight0_apply (ky kx : Fin 3) (k o : Fin 128) : (weight0 V : S128x128x3x3.Idx → EReal) (ix4 o k ky kx) = netW V 0 ky kx k o := by
  unfold weight0
  pointwise

theorem bias0_apply (o : Fin 128) : (bias0 V : S128.Idx → EReal) (ix1 o) = netB V 0 o := by
  unfold bias0
  pointwise

theorem cls0_apply (k : Fin 128) (j : Fin 100) : (cls0 V : S100x128.Idx → EReal) (ix2 j k) = netWc V 0 k j := by
  unfold cls0
  pointwise

theorem off0_apply (j : Fin 100) : (off0 V : S100.Idx → EReal) (ix1 j) = netBc V 0 j := by
  unfold off0
  pointwise

theorem holds0 (b : Fin 16) : Holds (res_main_v382 V) b (featureOf V b 0) := by
  rw [v382_eq, v323_eq]
  exact layer_holds (first_holds V b) _ _ _ _ (weight0_apply V) (bias0_apply V)

theorem logits0 (b : Fin 16) (j : Fin 100) : (res_main_v394 V : S16x100.Idx → EReal) (ix2 b j) = logitOf V b 0 j := by
  rw [v394_eq, logitsOf_apply, holds0]
  simp only [cls0_apply, off0_apply]

theorem weight1_apply (ky kx : Fin 3) (k o : Fin 128) : (weight1 V : S128x128x3x3.Idx → EReal) (ix4 o k ky kx) = netW V 1 ky kx k o := by
  unfold weight1
  pointwise

theorem bias1_apply (o : Fin 128) : (bias1 V : S128.Idx → EReal) (ix1 o) = netB V 1 o := by
  unfold bias1
  pointwise

theorem cls1_apply (k : Fin 128) (j : Fin 100) : (cls1 V : S100x128.Idx → EReal) (ix2 j k) = netWc V 1 k j := by
  unfold cls1
  pointwise

theorem off1_apply (j : Fin 100) : (off1 V : S100.Idx → EReal) (ix1 j) = netBc V 1 j := by
  unfold off1
  pointwise

theorem holds1 (b : Fin 16) : Holds (res_main_v605 V) b (featureOf V b 1) := by
  rw [v605_eq, v546_eq]
  exact layer_holds (holds0 V b) _ _ _ _ (weight1_apply V) (bias1_apply V)

theorem logits1 (b : Fin 16) (j : Fin 100) : (res_main_v617 V : S16x100.Idx → EReal) (ix2 b j) = logitOf V b 1 j := by
  rw [v617_eq, logitsOf_apply, holds1]
  simp only [cls1_apply, off1_apply]

theorem weight2_apply (ky kx : Fin 3) (k o : Fin 128) : (weight2 V : S128x128x3x3.Idx → EReal) (ix4 o k ky kx) = netW V 2 ky kx k o := by
  unfold weight2
  pointwise

theorem bias2_apply (o : Fin 128) : (bias2 V : S128.Idx → EReal) (ix1 o) = netB V 2 o := by
  unfold bias2
  pointwise

theorem cls2_apply (k : Fin 128) (j : Fin 100) : (cls2 V : S100x128.Idx → EReal) (ix2 j k) = netWc V 2 k j := by
  unfold cls2
  pointwise

theorem off2_apply (j : Fin 100) : (off2 V : S100.Idx → EReal) (ix1 j) = netBc V 2 j := by
  unfold off2
  pointwise

theorem holds2 (b : Fin 16) : Holds (res_main_v828 V) b (featureOf V b 2) := by
  rw [v828_eq, v769_eq]
  exact layer_holds (holds1 V b) _ _ _ _ (weight2_apply V) (bias2_apply V)

theorem logits2 (b : Fin 16) (j : Fin 100) : (res_main_v840 V : S16x100.Idx → EReal) (ix2 b j) = logitOf V b 2 j := by
  rw [v840_eq, logitsOf_apply, holds2]
  simp only [cls2_apply, off2_apply]

theorem weight3_apply (ky kx : Fin 3) (k o : Fin 128) : (weight3 V : S128x128x3x3.Idx → EReal) (ix4 o k ky kx) = netW V 3 ky kx k o := by
  unfold weight3
  pointwise

theorem bias3_apply (o : Fin 128) : (bias3 V : S128.Idx → EReal) (ix1 o) = netB V 3 o := by
  unfold bias3
  pointwise

theorem cls3_apply (k : Fin 128) (j : Fin 100) : (cls3 V : S100x128.Idx → EReal) (ix2 j k) = netWc V 3 k j := by
  unfold cls3
  pointwise

theorem off3_apply (j : Fin 100) : (off3 V : S100.Idx → EReal) (ix1 j) = netBc V 3 j := by
  unfold off3
  pointwise

theorem holds3 (b : Fin 16) : Holds (res_main_v1051 V) b (featureOf V b 3) := by
  rw [v1051_eq, v992_eq]
  exact layer_holds (holds2 V b) _ _ _ _ (weight3_apply V) (bias3_apply V)

theorem logits3 (b : Fin 16) (j : Fin 100) : (res_main_v1063 V : S16x100.Idx → EReal) (ix2 b j) = logitOf V b 3 j := by
  rw [v1063_eq, logitsOf_apply, holds3]
  simp only [cls3_apply, off3_apply]

/-! ## The result -/

/-- The logits at the four exits. -/
def exitLogits : Fin 4 → FVec Ideal S16x100 .f32 := ![res_main_v394 V, res_main_v617 V, res_main_v840 V, res_main_v1063 V]

/-- The reference's result. -/
def result : FVec Ideal S16x100 .f32 := exitsOf (fun d => reachOf (exitLogits V d)) (exitLogits V)

/-- The run of the reference: its result, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1096) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2⟩) (Value.run m ρ)

theorem exitLogits_apply (d : Fin 4) (b : Fin 16) (j : Fin 100) : (exitLogits V d : S16x100.Idx → EReal) (ix2 b j) = logitOf V b d j := by
  fin_cases d
  · exact logits0 V b j
  · exact logits1 V b j
  · exact logits2 V b j
  · exact logits3 V b j

theorem result_apply (b : Fin 16) (j : Fin 100) :
    (result V : S16x100.Idx → EReal) (ix2 b j) = choose (fun d => confidence (logitOf V b d)) (logitOf V b) j := by
  unfold result choose
  rw [exitsOf_apply]
  simp only [reachOf_apply, exitLogits_apply]
  by_cases h0 : threshold ≤ confidence (logitOf V b 0)
  · simp [h0]
  · by_cases h1 : threshold ≤ confidence (logitOf V b 1)
    · simp [h0, h1]
    · by_cases h2 : threshold ≤ confidence (logitOf V b 2)
      · simp [h0, h1, h2]
      · simp [h0, h1, h2]

end Cert.Msd.Ref

end
-- ==== Proof.Softmax.lean ====
/-
  The largest entry of a softmax of real logits is the reciprocal of its denominator.
-/
module

public import proofs.«01_k».proof.Proof.Math

@[expose] public section

noncomputable section

namespace Cert.Msd

open Idealize.ShloMosaic

/-- The largest of a hundred real logits is one of them. -/
theorem top_attained (x : Fin 100 → ℝ) : ∃ i, top (fun j => (x j : EReal)) = x i ∧ ∀ j, x j ≤ x i := by
  obtain ⟨i, -, hi⟩ := Finset.exists_max_image (Finset.univ : Finset (Fin 100)) x Finset.univ_nonempty
  refine ⟨i, le_antisymm ?_ ?_, fun j => hi j (Finset.mem_univ j)⟩
  · exact (Finset.fold_max_le _).2 ⟨bot_le, fun j _ => EReal.coe_le_coe_iff.2 (hi j (Finset.mem_univ j))⟩
  · exact (Finset.le_fold_max _).2 (.inr ⟨i, Finset.mem_univ i, le_rfl⟩)

theorem confidence_real (x : Fin 100 → ℝ) : confidence (fun j => (x j : EReal)) = sure (fun j => (x j : EReal)) := by
  obtain ⟨i, hi, hle⟩ := top_attained x
  have he : ∀ j, Ideal.exp ((x j : EReal) - top (fun j => (x j : EReal))) = (Real.exp (x j - x i) : EReal) := fun j => by
    rw [hi, ← EReal.coe_sub]; rfl
  have ht : total (fun j => (x j : EReal)) = ((∑ j, Real.exp (x j - x i) : ℝ) : EReal) := by
    rw [total, Finset.sum_congr rfl fun j _ => he j]
    push_cast
    rfl
  have hpos : 0 < ∑ j, Real.exp (x j - x i) := Finset.sum_pos (fun j _ => Real.exp_pos _) Finset.univ_nonempty
  have hdiv : ∀ a : ℝ, Ideal.div (a : EReal) (total (fun j => (x j : EReal)))
      = ((a * (∑ j, Real.exp (x j - x i))⁻¹ : ℝ) : EReal) := fun a => by
    rw [ht, Ideal.div, if_neg (by exact_mod_cast hpos.ne'), EReal.coe_mul, EReal.coe_inv]
  have hs : sure (fun j => (x j : EReal)) = ((1 * (∑ j, Real.exp (x j - x i))⁻¹ : ℝ) : EReal) := by
    rw [sure, ← hdiv]; rfl
  rw [confidence, hs]
  simp only [he, hdiv]
  refine le_antisymm ((Finset.fold_max_le _).2 ⟨bot_le, fun j _ => EReal.coe_le_coe_iff.2 ?_⟩)
    ((Finset.le_fold_max _).2 (.inr ⟨i, Finset.mem_univ i, EReal.coe_le_coe_iff.2 ?_⟩))
  · exact mul_le_mul_of_nonneg_right (Real.exp_le_one_iff.2 (by linarith [hle j])) (inv_nonneg.2 hpos.le)
  · rw [sub_self, Real.exp_zero]

/-- The two ways of writing the confidence agree on real logits. -/
theorem confidence_eq (l : Fin 100 → EReal) (h : ∀ j, ∃ r : ℝ, l j = r) : confidence l = sure l := by
  choose x hx using h
  rw [show l = fun j => (x j : EReal) from funext hx]
  exact confidence_real x

end Cert.Msd

end
-- ==== Proof.Finite.lean ====
/-
  Finite arguments: the precondition makes every entry a real number, and the logits of real arguments are real.
-/
module

public import proofs.«01_k».proof.Proof.Math
public import proofs.«01_k».proof.Pre_finite
public import Idealize.ShloMosaic.Lib.ReduceAll

@[expose] public section

set_option maxRecDepth 16384

noncomputable section

namespace Cert.Msd

open Idealize.ShloMosaic

/-! ## Real numbers stay real -/

/-- `x` is a real number. -/
abbrev IsReal (x : EReal) : Prop := ∃ r : ℝ, x = r

theorem real_zero : IsReal 0 := ⟨0, rfl⟩

theorem real_add {x y : EReal} : IsReal x → IsReal y → IsReal (x + y) := by
  rintro ⟨a, rfl⟩ ⟨b, rfl⟩
  exact ⟨a + b, rfl⟩

theorem real_mul {x y : EReal} : IsReal x → IsReal y → IsReal (x * y) := by
  rintro ⟨a, rfl⟩ ⟨b, rfl⟩
  exact ⟨a * b, (EReal.coe_mul a b).symm⟩

theorem real_max {x y : EReal} (hx : IsReal x) (hy : IsReal y) : IsReal (max x y) := by
  rcases max_choice x y with h | h <;> rw [h] <;> assumption

theorem real_sum {ι : Type} (s : Finset ι) (f : ι → EReal) (h : ∀ i, IsReal (f i)) : IsReal (∑ i ∈ s, f i) := by
  classical
  induction s using Finset.induction_on with
  | empty => simpa using real_zero
  | insert a s ha ih => rw [Finset.sum_insert ha]; exact real_add (h a) ih

theorem padded_real {n : ℕ} {f : Img n} (hf : ∀ r c k, IsReal (f r c k)) (r c : ℕ) (k : Fin n) : IsReal (padded f r c k) := by
  unfold padded
  split
  · exact hf _ _ _
  · exact real_zero

theorem conv_real {n : ℕ} {f : Img n} {w : Fin 3 → Fin 3 → Fin n → Fin 128 → EReal} (hf : ∀ r c k, IsReal (f r c k))
    (hw : ∀ ky kx k o, IsReal (w ky kx k o)) (r c : ℕ) (o : Fin 128) : IsReal (conv f w r c o) :=
  real_sum _ _ fun _ => real_sum _ _ fun _ => real_sum _ _ fun _ => real_mul (padded_real hf _ _ _) (hw _ _ _ _)

theorem first_real {n : ℕ} {f : Img n} {w : Fin 3 → Fin 3 → Fin n → Fin 128 → EReal} {b : Fin 128 → EReal} (hf : ∀ r c k, IsReal (f r c k))
    (hw : ∀ ky kx k o, IsReal (w ky kx k o)) (hb : ∀ o, IsReal (b o)) (r c : Fin 112) (o : Fin 128) : IsReal (first f w b r c o) :=
  real_add (conv_real hf hw _ _ _) (hb o)

theorem layer_real {n : ℕ} {f : Img n} {w : Fin 3 → Fin 3 → Fin n → Fin 128 → EReal} {b : Fin 128 → EReal} (hf : ∀ r c k, IsReal (f r c k))
    (hw : ∀ ky kx k o, IsReal (w ky kx k o)) (hb : ∀ o, IsReal (b o)) (r c : Fin 112) (o : Fin 128) : IsReal (layer f w b r c o) :=
  real_max (real_add (conv_real hf hw _ _ _) (hb o)) real_zero

theorem feature_real {f : Img 128} {W : Fin 4 → Fin 3 → Fin 3 → Fin 128 → Fin 128 → EReal} {B : Fin 4 → Fin 128 → EReal}
    (hf : ∀ r c k, IsReal (f r c k)) (hW : ∀ d ky kx k o, IsReal (W d ky kx k o)) (hB : ∀ d o, IsReal (B d o)) (d : Fin 4) :
    ∀ r c k, IsReal (feature f W B d r c k) := by
  have h0 := layer_real hf (hW 0) (hB 0)
  have h1 := layer_real h0 (hW 1) (hB 1)
  have h2 := layer_real h1 (hW 2) (hB 2)
  have h3 := layer_real h2 (hW 3) (hB 3)
  fin_cases d
  · exact h0
  · exact h1
  · exact h2
  · exact h3

theorem logit_real {f : Img 128} {w : Fin 128 → Fin 100 → EReal} {b : Fin 100 → EReal} (hf : ∀ r c k, IsReal (f r c k))
    (hw : ∀ k j, IsReal (w k j)) (hb : ∀ j, IsReal (b j)) (j : Fin 100) : IsReal (logit f w b j) :=
  real_add (real_sum _ _ fun _ => real_mul (real_mul (real_sum _ _ fun _ => real_sum _ _ fun _ => hf _ _ _) ⟨_, rfl⟩) (hw _ _)) (hb j)

/-! ## The precondition -/

open Cert.Pre_finite

/-- The precondition's side conditions. -/
theorem preFacts : Cert.Pre_finite.Facts where
  bcast_S_S16x3x112x112 := by decide
  reducesTo_S16x3x112x112_S_d0_1_2_3 := by decide
  h_S_ := by decide
  bcast_S_S3x128x3x3x3 := by decide
  reducesTo_S3x128x3x3x3_S_d0_1_2_3_4 := by decide
  bcast_S_S3x128 := by decide
  reducesTo_S3x128_S_d0_1 := by decide
  bcast_S_S4x3x128x128x3x3 := by decide
  reducesTo_S4x3x128x128x3x3_S_d0_1_2_3_4_5 := by decide
  bcast_S_S4x3x128 := by decide
  reducesTo_S4x3x128_S_d0_1_2 := by decide
  bcast_S_S4x100x128 := by decide
  reducesTo_S4x100x128_S_d0_1_2 := by decide
  bcast_S_S4x100 := by decide
  reducesTo_S4x100_S_d0_1 := by decide

theorem bits_top : Ideal.ofBits .f32 0x7F800000#32 = (⊤ : EReal) := by
  simp [Ideal.ofBits, Ideal.ieee]

/-- A number whose magnitude is below infinity is real. -/
theorem real_of_magnitude {x : EReal} (h : max x (-x) < ⊤) : IsReal x := by
  induction x using EReal.rec with
  | bot => simp at h
  | coe r => exact ⟨r, rfl⟩
  | top => simp at h

/-- Every entry of `x` has a magnitude below infinity. -/
def below {s : Shape} (hb : S_.BroadcastsInDim s (![] : Fin 0 → Fin s.rank)) (x : FVec Ideal s .f32) : IVec s 1 :=
  cmpf .olt (Host.absf x) (broadcastInDim s ![] hb (constant S_ .f32 0x7F800000#32))

theorem below_real {s : Shape} (hb : S_.BroadcastsInDim s (![] : Fin 0 → Fin s.rank)) (x : FVec Ideal s .f32) (i : s.Idx)
    (h : below hb x i = 1#1) : IsReal ((x : s.Idx → EReal) i) := by
  refine real_of_magnitude ?_
  have h' : BitVec.ofBool (decide (max ((x : s.Idx → EReal) i) (-(x : s.Idx → EReal) i) < Ideal.ofBits .f32 0x7F800000#32)) = 1#1 := h
  rw [bits_top] at h'
  by_contra hn
  simp [hn] at h'

instance : Subsingleton S_.Idx := ⟨fun a b => funext fun k => k.elim0⟩

/-- The conjunction over a whole array. -/
theorem all_real {s : Shape} {axes : List (Fin s.rank)} (hb : S_.BroadcastsInDim s (![] : Fin 0 → Fin s.rank)) (x : FVec Ideal s .f32)
    (init : S_.Idx → BitVec 1) (hr : s.ReducesTo axes S_) (hu : 0 < S_.numel) (j : S_.Idx)
    (h : Host.reduce IntOp.andi (below hb x) init hr hu j = 1#1) (i : s.Idx) : IsReal ((x : s.Idx → EReal) i) :=
  below_real hb x i (Host.reduce_andi_all _ _ hr hu j h i)

theorem both {a b : BitVec 1} (h : IntOp.andi a b = 1#1) : a = 1#1 ∧ b = 1#1 := by
  revert h
  revert a b
  decide

/-- The precondition: every entry of every argument is real. -/
theorem real_of_finite [Facts] (x : FVec Ideal S16x3x112x112 .f32) (wi : FVec Ideal S3x128x3x3x3 .f32) (bi : FVec Ideal S3x128 .f32)
    (w : FVec Ideal S4x3x128x128x3x3 .f32) (b : FVec Ideal S4x3x128 .f32) (wc : FVec Ideal S4x100x128 .f32) (bc : FVec Ideal S4x100 .f32)
    (h : Cert.Pre_finite.fn (F := Ideal) x wi bi w b wc bc = fun _ => 1#1) :
    (∀ i, IsReal ((x : S16x3x112x112.Idx → EReal) i)) ∧ (∀ i, IsReal ((wi : S3x128x3x3x3.Idx → EReal) i)) ∧ (∀ i, IsReal ((bi : S3x128.Idx → EReal) i))
      ∧ (∀ i, IsReal ((w : S4x3x128x128x3x3.Idx → EReal) i)) ∧ (∀ i, IsReal ((b : S4x3x128.Idx → EReal) i))
      ∧ (∀ i, IsReal ((wc : S4x100x128.Idx → EReal) i)) ∧ (∀ i, IsReal ((bc : S4x100.Idx → EReal) i)) := by
  have e := congrFun h (fun k => k.elim0)
  unfold Cert.Pre_finite.fn Cert.Pre_finite.fn_part1 at e
  obtain ⟨e, h6⟩ := both e
  obtain ⟨e, h5⟩ := both e
  obtain ⟨e, h4⟩ := both e
  obtain ⟨e, h3⟩ := both e
  obtain ⟨e, h2⟩ := both e
  obtain ⟨h0, h1⟩ := both e
  exact ⟨all_real _ x _ _ _ _ h0, all_real _ wi _ _ _ _ h1, all_real _ bi _ _ _ _ h2, all_real _ w _ _ _ _ h3, all_real _ b _ _ _ _ h4,
    all_real _ wc _ _ _ _ h5, all_real _ bc _ _ _ _ h6⟩

end Cert.Msd

end
-- ==== Proof.Equal.lean ====
/-
  The two results are equal: both choose the logits of the first confident exit, and on real arguments the two ways of
  computing a confidence agree.
-/
module

public import proofs.«01_k».proof.Proof.Given
public import proofs.«01_k».proof.Proof.RefValue
public import proofs.«01_k».proof.Proof.Softmax
public import proofs.«01_k».proof.Proof.Finite

@[expose] public section

set_option maxRecDepth 16384

noncomputable section

namespace Cert.Msd

open Idealize.ShloMosaic Idealize.ShloMosaic.TcCoe Idealize.SL.Sem

section
open Cert.KernelIdeal Cert.KernelIdeal.Gen
variable (m : (ℓ : Loc nD τ sig) → Buf (Elt Ideal) ℓ) (c : Dev nD)

/-- The kernel's result. -/
def result : FVec Ideal S16x100 .f32 :=
  shapeCast S16x100 (extractStridedSlice S16x1x100 ![0, 0, 0] (arr m c) slices_S16x1x128_S16x1x100_0_0_0) shapeCasts_S16x1x100_S16x100

theorem result_apply (b : Fin 16) (j : Fin 100) :
    (result m c : S16x100.Idx → EReal) (ix2 b j) = choose (fun d => sure (logitOf (start m c) b d)) (logitOf (start m c) b) j := by
  refine Eq.trans ?_ (out_apply m c b j)
  unfold result
  pointwise
  rfl

end

section
variable (V : Valuation Cert.KernelIdeal.τ Cert.KernelIdeal.sig (Elt Ideal)) (V' : Valuation Cert.ReferenceIdeal.τ Cert.ReferenceIdeal.sig (Elt Ideal))

/-- The two programs are given the same arguments. -/
structure Same : Prop where
  x : Ref.argX V' = argX V
  wi : Ref.argWi V' = argWi V
  bi : Ref.argBi V' = argBi V
  w : Ref.argW V' = argW V
  b : Ref.argB V' = argB V
  wc : Ref.argWc V' = argWc V
  bc : Ref.argBc V' = argBc V

/-- The arguments are real. -/
structure AllReal : Prop where
  x : ∀ i, IsReal (argX V i)
  wi : ∀ i, IsReal (argWi V i)
  bi : ∀ i, IsReal (argBi V i)
  w : ∀ i, IsReal (argW V i)
  b : ∀ i, IsReal (argB V i)
  wc : ∀ i, IsReal (argWc V i)
  bc : ∀ i, IsReal (argBc V i)

variable {V V'}

theorem same_logits (h : Same V V') (b : Fin 16) (d : Fin 4) : Ref.logitOf V' b d = logitOf V b d := by
  unfold Ref.logitOf Ref.featureOf Ref.image Ref.netWi Ref.netBi Ref.netW Ref.netB Ref.netWc Ref.netBc
  rw [h.x, h.wi, h.bi, h.w, h.b, h.wc, h.bc]

theorem logits_real (h : AllReal V) (b : Fin 16) (d : Fin 4) (j : Fin 100) : IsReal (logitOf V b d j) :=
  logit_real (feature_real (first_real (fun _ _ _ => h.x _) (fun _ _ _ _ => h.wi _) fun _ => h.bi _) (fun _ _ _ _ _ => h.w _) (fun _ _ => h.b _) d)
    (fun _ _ => h.wc _) (fun _ => h.bc _) j

/-- The equation between the two results. -/
theorem results_eq (m : (ℓ : Loc Cert.KernelIdeal.nD Cert.KernelIdeal.τ Cert.KernelIdeal.sig) → Buf (Elt Ideal) ℓ) (c : Dev Cert.KernelIdeal.nD)
    (h : Same (start m c) V') (hr : AllReal (start m c)) : (Ref.result V' : Cert.KernelIdeal.S16x100.Idx → EReal) = result m c := by
  funext i
  obtain ⟨b, j, rfl⟩ : ∃ b j, i = ix2 b j := ⟨i 0, i 1, by funext a; fin_cases a <;> rfl⟩
  refine (Ref.result_apply V' b j).trans (Eq.trans ?_ (result_apply m c b j).symm)
  have e : Ref.logitOf V' b = logitOf (start m c) b := funext (same_logits h b)
  have s : (fun d => confidence (logitOf (start m c) b d)) = fun d => sure (logitOf (start m c) b d) :=
    funext fun d => confidence_eq _ (logits_real hr b d)
  rw [e, s]

end

end Cert.Msd

end
-- ==== Proof.lean ====
/-
  The proof of the certificate's claim: the frames, the idealization, and the equality of the two results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

instance : Cert.Pre_finite.Facts := Cert.Msd.preFacts

theorem quiescentKernel : Cert.quiescent_Kernel := fun m g _ => Cert.Kernel.Gen.frame m g

theorem quiescentKernelIdeal : Cert.quiescent_KernelIdeal := fun m g _ => Cert.KernelIdeal.Gen.frame m g

theorem quiescentKernelIdealFinite : Cert.quiescent_KernelIdeal_pre_finite := fun m g _ => Cert.KernelIdeal.Gen.frame m g

/-- The reference declares no semaphore, so its counters are zero. -/
theorem quiescentReferenceIdeal : Cert.quiescent_ReferenceIdeal := fun m g _ =>
  (θ_run Cert.ReferenceIdeal.defs _ _).mono (fun r h => ⟨fun c => (h c).2, sem_eq_zero_of_no_sems (by decide) r.2⟩) (Cert.Msd.Ref.run m g)

theorem quiescentReferenceIdealFinite : Cert.quiescent_ReferenceIdeal_pre_finite := fun m g _ => quiescentReferenceIdeal m g trivial

theorem preservesKernel : Cert.preserves_Kernel_KernelIdeal :=
  IdealRules.named_const.statement Cert.KernelIdeal.κ "mean" .f32 0x38A72F05#32 (((12544⁻¹ : ℝ) : EReal)) rfl

/-- The precondition says that the arguments are real. -/
theorem allReal (m : (ℓ : Loc Cert.KernelIdeal.nD Cert.KernelIdeal.τ Cert.KernelIdeal.sig) → Buf (Elt Ideal) ℓ) (h : Cert.Pre_KernelIdeal_finite m)
    (c : Dev Cert.KernelIdeal.nD) : Cert.Msd.AllReal (Cert.Msd.start m c) := by
  obtain ⟨hx, hwi, hbi, hw, hb, hwc, hbc⟩ := Cert.Msd.real_of_finite _ _ _ _ _ _ _ (h c)
  exact ⟨hx, hwi, hbi, hw, hb, hwc, hbc⟩

theorem algebraicKernel : Cert.algebraic_KernelIdeal_ReferenceIdeal_pre_finite := by
  pair_intro
  · run_from Cert.Msd.run m g & Cert.KernelIdeal.Gen.unchanged m g
  · run_from Cert.Msd.Ref.run m' g'
    have same : Cert.Msd.Same (Cert.Msd.start m c) (StableHlo.launchContents m' c) := by
      obtain ⟨hx, hwi, hbi, hw, hb, hwc, hbc⟩ := hagree c
      exact ⟨hx, hwi, hbi, hw, hb, hwc, hbc⟩
    exact Cert.Msd.results_eq m c same (allReal m hpre c)

theorem claim : Cert.Claim :=
  ⟨Cert.Kernel.Gen.facts, Cert.KernelIdeal.Gen.facts, Cert.ReferenceIdeal.Gen.facts, Cert.Msd.preFacts, quiescentKernel, quiescentKernelIdeal,
    quiescentKernelIdealFinite, quiescentReferenceIdeal, quiescentReferenceIdealFinite, preservesKernel, algebraicKernel⟩

end Cert.Proof

end
